-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x512 : Shape := ⟨2, ![512, 512]⟩
abbrev S2x128x32x64 : Shape := ⟨4, ![2, 128, 32, 64]⟩
abbrev S_ : Shape := ⟨0, ![]⟩
abbrev S2x128x8x64 : Shape := ⟨4, ![2, 128, 8, 64]⟩
abbrev S2x8x128x64 : Shape := ⟨4, ![2, 8, 128, 64]⟩
abbrev S4x2x128x512 : Shape := ⟨4, ![4, 2, 128, 512]⟩
abbrev S4 : Shape := ⟨1, ![4]⟩
abbrev S1x128x512 : Shape := ⟨3, ![1, 128, 512]⟩
abbrev S128x512 : Shape := ⟨2, ![128, 512]⟩
abbrev S128x64 : Shape := ⟨2, ![128, 64]⟩
abbrev S1x1x128x64 : Shape := ⟨4, ![1, 1, 128, 64]⟩
abbrev S128x128 : Shape := ⟨2, ![128, 128]⟩
abbrev S128 : Shape := ⟨1, ![128]⟩
abbrev S128x1 : Shape := ⟨2, ![128, 1]⟩
abbrev S1x1x128x512 : Shape := ⟨4, ![1, 1, 128, 512]⟩
abbrev S1 : Shape := ⟨1, ![1]⟩

abbrev nBuf : Space → Nat
  | .hbm => 36
  | .vmem => 7
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S2x128x32x64, .bf16⟩
  | .hbm, ⟨3, _⟩ => ⟨S2x128x32x64, .bf16⟩
  | .hbm, ⟨4, _⟩ => ⟨S512x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x8x64, .bf16⟩
  | .hbm, ⟨22, _⟩ => ⟨S2x8x128x64, .bf16⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S2x128x8x64, .bf16⟩
  | .hbm, ⟨34, _⟩ => ⟨S2x8x128x64, .bf16⟩
  | .hbm, ⟨35, _⟩ => ⟨S2x128x512, .f32⟩
  | .local _ .vmem, ⟨0, _⟩ => ⟨S2x128x512, .bf16⟩
  | .local _ .vmem, ⟨1, _⟩ => ⟨S512x512, .bf16⟩
  | .local _ .vmem, ⟨2, _⟩ => ⟨S512x512, .bf16⟩
  | .local _ .vmem, ⟨3, _⟩ => ⟨S2x8x128x64, .bf16⟩
  | .local _ .vmem, ⟨4, _⟩ => ⟨S2x8x128x64, .bf16⟩
  | .local _ .vmem, ⟨5, _⟩ => ⟨S2x128x512, .f32⟩
  | .local _ .vmem, ⟨6, _⟩ => ⟨S4x2x128x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_v10 : Ref sig .tc := ⟨.hbm, 22, rfl⟩
abbrev main_c_7 : Ref sig .tc := ⟨.hbm, 23, rfl⟩
abbrev main_v11 : Ref sig .tc := ⟨.hbm, 24, rfl⟩
abbrev main_c_8 : Ref sig .tc := ⟨.hbm, 25, rfl⟩
abbrev main_v12 : Ref sig .tc := ⟨.hbm, 26, rfl⟩
abbrev main_c_9 : Ref sig .tc := ⟨.hbm, 27, rfl⟩
abbrev main_v13 : Ref sig .tc := ⟨.hbm, 28, rfl⟩
abbrev main_v14 : Ref sig .tc := ⟨.hbm, 29, rfl⟩
abbrev main_c_10 : Ref sig .tc := ⟨.hbm, 30, rfl⟩
abbrev main_c_11 : Ref sig .tc := ⟨.hbm, 31, rfl⟩
abbrev main_c_12 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v4 : BitVec 32 := Scalar.xori v2 c2_i32
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_124 : BitVec 32 := 1#32
  let v194 : BitVec 32 := Scalar.muli v3 c1_i32_124
  let v195 : BitVec 32 := Scalar.addi c0_i32_125 v194
  v195.toNat
def k0_dev4 (d0 : Dev nD) : Nat :=
  let c0_i32_253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_252 : BitVec 32 := 1#32
  let v384 : BitVec 32 := Scalar.muli v3 c1_i32_252
  let v385 : BitVec 32 := Scalar.addi c0_i32_253 v384
  v385.toNat
def k0_dev5 (d0 : Dev nD) : Nat :=
  let c0_i32_290 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v4 : BitVec 32 := Scalar.xori v2 c2_i32
  let c1_i32_289 : BitVec 32 := 1#32
  let v415 : BitVec 32 := Scalar.muli v4 c1_i32_289
  let v416 : BitVec 32 := Scalar.addi c0_i32_290 v415
  v416.toNat
def k0_dev6 (d0 : Dev nD) : Nat :=
  let c0_i32_328 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v4 : BitVec 32 := Scalar.xori v2 c2_i32
  let c1_i32_327 : BitVec 32 := 1#32
  let v446 : BitVec 32 := Scalar.muli v4 c1_i32_327
  let v447 : BitVec 32 := Scalar.addi c0_i32_328 v446
  v447.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8x128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x2048 : Shape := ⟨2, ![512, 2048]⟩
abbrev S2x128x32x64 : Shape := ⟨4, ![2, 128, 32, 64]⟩
abbrev S2048x512 : Shape := ⟨2, ![2048, 512]⟩
abbrev S2x128x2048 : Shape := ⟨3, ![2, 128, 2048]⟩
abbrev S_ : Shape := ⟨0, ![]⟩
abbrev S2x32x128x1 : Shape := ⟨4, ![2, 32, 128, 1]⟩
abbrev S2x32x128x128 : Shape := ⟨4, ![2, 32, 128, 128]⟩
abbrev S2x32x128 : Shape := ⟨3, ![2, 32, 128]⟩
abbrev S2x128x32x1 : Shape := ⟨4, ![2, 128, 32, 1]⟩
abbrev S2x32x64x128 : Shape := ⟨4, ![2, 32, 64, 128]⟩

abbrev nBuf : Space → Nat
  | .hbm => 45
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x2048, .bf16⟩
  | .hbm, ⟨2, _⟩ => ⟨S2x128x32x64, .bf16⟩
  | .hbm, ⟨3, _⟩ => ⟨S2x128x32x64, .bf16⟩
  | .hbm, ⟨4, _⟩ => ⟨S2048x512, .bf16⟩
  | .hbm, ⟨5, _⟩ => ⟨S2x128x2048, .f32⟩
  | .hbm, ⟨6, _⟩ => ⟨S2x128x2048, .bf16⟩
  | .hbm, ⟨7, _⟩ => ⟨S2x128x32x64, .bf16⟩
  | .hbm, ⟨8, _⟩ => ⟨S_, .f32⟩
  | .hbm, ⟨9, _⟩ => ⟨S2x128x32x64, .f32⟩
  | .hbm, ⟨10, _⟩ => ⟨S_, .f32⟩
  | .hbm, ⟨11, _⟩ => ⟨S2x32x128x1, .f32⟩
  | .hbm, ⟨12, _⟩ => ⟨S_, .f32⟩
  | .hbm, ⟨13, _⟩ => ⟨S2x32x128x1, .f32⟩
  | .hbm, ⟨14, _⟩ => ⟨S2x32x128x128, .f32⟩
  | .hbm, ⟨15, _⟩ => ⟨S2x32x128x128, .bf16⟩
  | .hbm, ⟨16, _⟩ => ⟨S2x32x128x128, .f32⟩
  | .hbm, ⟨17, _⟩ => ⟨S_, .f32⟩
  | .hbm, ⟨18, _⟩ => ⟨S2x32x128x128, .f32⟩
  | .hbm, ⟨19, _⟩ => ⟨S2x32x128x128, .f32⟩
  | .hbm, ⟨20, _⟩ => ⟨S_, .f32⟩
  | .hbm, ⟨21, _⟩ => ⟨S2x32x128, .f32⟩
  | .hbm, ⟨22, _⟩ => ⟨S2x32x128x1, .f32⟩
  | .hbm, ⟨23, _⟩ => ⟨S2x32x128x1, .f32⟩
  | .hbm, ⟨24, _⟩ => ⟨S2x32x128x1, .f32⟩
  | .hbm, ⟨25, _⟩ => ⟨S2x32x128x1, .f32⟩
  | .hbm, ⟨26, _⟩ => ⟨S2x32x128x128, .f32⟩
  | .hbm, ⟨27, _⟩ => ⟨S2x32x128x128, .f32⟩
  | .hbm, ⟨28, _⟩ => ⟨S2x32x128x128, .f32⟩
  | .hbm, ⟨29, _⟩ => ⟨S2x32x128x1, .f32⟩
  | .hbm, ⟨30, _⟩ => ⟨S_, .f32⟩
  | .hbm, ⟨31, _⟩ => ⟨S2x32x128, .f32⟩
  | .hbm, ⟨32, _⟩ => ⟨S2x32x128x1, .f32⟩
  | .hbm, ⟨33, _⟩ => ⟨S2x32x128x1, .f32⟩
  | .hbm, ⟨34, _⟩ => ⟨S2x128x32x1, .f32⟩
  | .hbm, ⟨35, _⟩ => ⟨S2x128x32x64, .f32⟩
  | .hbm, ⟨36, _⟩ => ⟨S2x128x32x64, .f32⟩
  | .hbm, ⟨37, _⟩ => ⟨S2x32x64x128, .f32⟩
  | .hbm, ⟨38, _⟩ => ⟨S2x128x32x64, .f32⟩
  | .hbm, ⟨39, _⟩ => ⟨S2x128x32x64, .f32⟩
  | .hbm, ⟨40, _⟩ => ⟨S2x128x32x1, .f32⟩
  | .hbm, ⟨41, _⟩ => ⟨S2x128x32x64, .f32⟩
  | .hbm, ⟨42, _⟩ => ⟨S2x128x32x64, .f32⟩
  | .hbm, ⟨43, _⟩ => ⟨S2x128x2048, .f32⟩
  | .hbm, ⟨44, _⟩ => ⟨S2x128x512, .f32⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Proof.KernelIdeal.Protocol.lean ====
/-
The talk between the four devices: who signals, who copies, what each landing holds.

Device `c` has two partners, `p1 c` (its number with bit 0 flipped) and `p2 c` (bit 1 flipped).
It raises the barrier cell of each by one, and waits for two on its own: with each unit comes the
right to write two slots of a partner's communication buffer. Four remote copies `j = 0..3` follow,
copies 0 and 1 to `p1 c`, copies 2 and 3 to `p2 c`; copy `j` has its own send cell and its own receive
cell. The receive duty of copy `j` returns the landing slot at the contents the sender names, the
send duty returns the source slot.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Kit
public import Idealize.ShloMosaic.Lib.Pipeline.Value
public import Idealize.ShloMosaic.Lib.Rounds
public import Idealize.ShloMosaic.Lib.Tactic

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The partners -/

set_option backward.proofsInPublic true in
/-- The partner of the first exchange: bit 0 of the device number flipped. -/
def p1 (c : Dev nD) : Dev nD := ⟨c.val ^^^ 1, by revert c; decide⟩
set_option backward.proofsInPublic true in
/-- The partner of the second exchange: bit 1 of the device number flipped. -/
def p2 (c : Dev nD) : Dev nD := ⟨c.val ^^^ 2, by revert c; decide⟩

theorem p1_p1 (c : Dev nD) : p1 (p1 c) = c := by revert c; decide
theorem p2_p2 (c : Dev nD) : p2 (p2 c) = c := by revert c; decide

theorem dev1_eq (c : Dev nD) : (⟨k0_dev1 c, k0_dev1_lt c⟩ : Dev nD) = p1 c := by revert c; decide +kernel
theorem dev2_eq (c : Dev nD) : (⟨k0_dev2 c, k0_dev2_lt c⟩ : Dev nD) = p2 c := by revert c; decide +kernel
theorem dev3_eq (c : Dev nD) : (⟨k0_dev3 c, k0_dev3_lt c⟩ : Dev nD) = p1 c := by revert c; decide +kernel
theorem dev4_eq (c : Dev nD) : (⟨k0_dev4 c, k0_dev4_lt c⟩ : Dev nD) = p1 c := by revert c; decide +kernel
theorem dev5_eq (c : Dev nD) : (⟨k0_dev5 c, k0_dev5_lt c⟩ : Dev nD) = p2 c := by revert c; decide +kernel
theorem dev6_eq (c : Dev nD) : (⟨k0_dev6 c, k0_dev6_lt c⟩ : Dev nD) = p2 c := by revert c; decide +kernel

/-- The device copy `j` goes to, and comes from. -/
def peer (j : Fin 4) (c : Dev nD) : Dev nD := if j.val < 2 then p1 c else p2 c
theorem peer_peer (j : Fin 4) (c : Dev nD) : peer j (peer j c) = c := by
  unfold peer; split <;> simp only [p1_p1, p2_p2]

/-- Flipping bit 0, as a permutation of the devices. -/
def flip1 : Dev nD ≃ Dev nD := ⟨p1, p1, p1_p1, p1_p1⟩
/-- Flipping bit 1, as a permutation of the devices. -/
def flip2 : Dev nD ≃ Dev nD := ⟨p2, p2, p2_p2, p2_p2⟩

/-! ## The algebra: the pipeline's rounds and the talk's, whose duties are named by `Bool` -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Semaphores and cells -/

abbrev barS : Sem sig := (SemArray.scalar (sig.barrier 0 rfl) : Sems sig S_).sem

set_option backward.proofsInPublic true in
/-- The send semaphore of copy `j`. -/
def sendS (j : Fin 4) : DmaSem sig := ⟨6 + j.val, by revert j; decide⟩
set_option backward.proofsInPublic true in
/-- The receive semaphore of copy `j`. -/
def recvS (j : Fin 4) : DmaSem sig := ⟨10 + j.val, by revert j; decide⟩

theorem sendS_ne_recvS (j j' : Fin 4) : sendS j ≠ recvS j' := by revert j j'; decide
theorem sendS_inj (j j' : Fin 4) (h : sendS j = sendS j') : j = j' := by revert j j'; decide
theorem recvS_inj (j j' : Fin 4) (h : recvS j = recvS j') : j = j' := by revert j j'; decide

abbrev barCell (c : Dev nD) : GSem nD τ sig := ((c : Thread nD τ), .reg barS)
abbrev sendCell (j : Fin 4) (c : Dev nD) : GSem nD τ sig := ((c : Thread nD τ), .dma (sendS j))
abbrev recvCell (j : Fin 4) (c : Dev nD) : GSem nD τ sig := ((c : Thread nD τ), .dma (recvS j))

/-! ## The slots of the communication buffer -/

abbrev cM : Memref sig .tc .vmem S4x2x128x512 .bf16 := Memref.whole cc0_scratch0

theorem slot_inb (k : Fin 4) (b : Fin 2) :
    ∀ a, (![k.val, b.val, 0, 0] : Fin 4 → ℕ) a + S1x1x128x512.size a ≤ S4x2x128x512.size a := by
  revert k b; decide

/-- Slot `(k, b)`: the box of the communication buffer the copies and the loads name. -/
abbrev slotR (k : Fin 4) (b : Fin 2) : Rect S4x2x128x512 := Rect.unit (s := S4x2x128x512) ![k.val, b.val, 0, 0] S1x1x128x512.size (slot_inb k b)

/-- Slot `(k, b)` as the memref the copies name. -/
abbrev slotM (k : Fin 4) (b : Fin 2) : Memref sig .tc .vmem S128x512 .bf16 :=
  (cM.slice (slotR k b) (fun _ => rfl)).squeeze S128x512 squeezes_S1x1x128x512_S128x512

abbrev N : ℕ := (slotM 0 0).view.dmaCredit
theorem N_pos : 0 < N := View.dmaCredit_pos _ (by decide)

/-- Device `c`'s slot `(k, b)`, held whole at the buffer contents `f`. -/
def slotPts (k : Fin 4) (b : Fin 2) (c : Dev nD) (f : Buf (Elt F) ((slotM k b).view.loc (c : Thread nD τ))) : sProp 𝕄 :=
  (slotM k b).view.loc (c : Thread nD τ) ↦[(slotM k b).view.set]{fullShare} f

/-- Device `c`'s slot `(k, b)`, held whole with the block `v` in it. -/
def slotAt (k : Fin 4) (b : Fin 2) (c : Dev nD) (v : Vec F S1x1x128x512 .bf16) : sProp 𝕄 :=
  iprop(∃ f, ⌜cM.view.readAt (Elt F) (slotR k b).toLoadRect f = v⌝ ∗ slotPts k b c f)

/-- Device `c`'s slot `(k, b)`, held whole at some contents. -/
def slotAny (k : Fin 4) (b : Fin 2) (c : Dev nD) : sProp 𝕄 := iprop(∃ f, slotPts (F := F) k b c f)

omit [FloatOps F] in
instance slotPts_storable (k : Fin 4) (b : Fin 2) (c : Dev nD) (f) : BI.Storable (upEmb : UEmb _ 𝕄) (slotPts (F := F) k b c f) := by
  unfold slotPts; infer_instance
omit [FloatOps F] in
instance slotAt_storable (k : Fin 4) (b : Fin 2) (c : Dev nD) (v) : BI.Storable (upEmb : UEmb _ 𝕄) (slotAt (F := F) k b c v) := by
  unfold slotAt; infer_instance
omit [FloatOps F] in
instance slotAny_storable (k : Fin 4) (b : Fin 2) (c : Dev nD) : BI.Storable (upEmb : UEmb _ 𝕄) (slotAny (F := F) k b c) := by
  unfold slotAny; infer_instance

omit [FloatOps F] in
theorem slotAt_any (k : Fin 4) (b : Fin 2) (c : Dev nD) (v : Vec F S1x1x128x512 .bf16) : slotAt k b c v ⊢ (slotAny k b c : sProp 𝕄) := by
  unfold slotAt slotAny
  iintro ⟨%f, -, H⟩
  iexists f; iexact H

omit [FloatOps F] in
/-- Reading a slot through its squeezed view determines the block loaded from it: what a copy from slot `(k, b)` lands in
    slot `(k', b')` is loaded there as the block the source slot holds. -/
theorem landed_read (k k' : Fin 4) (b b' : Fin 2) (fs fd : (cc0_scratch0 : Ref sig .tc).ty.Contents (Elt F)) :
    cM.view.readAt (Elt F) (slotR k' b').toLoadRect
        ((slotM k' b').view.write (Elt F) fd ((slotM k b).view.read (Elt F) fs) Finset.univ)
      = cM.view.readAt (Elt F) (slotR k b).toLoadRect fs := by
  have h := View.read_write_univ (Val := Elt F) (v := (slotM k' b').view) fd ((slotM k b).view.read (Elt F) fs)
  have e : ∀ i : S1x1x128x512.Idx, ∃ j : S128x512.Idx, Shape.reshapeEquiv (s := S1x1x128x512) (s' := S128x512) (by decide) j = i := fun i =>
    ⟨_, Equiv.apply_symm_apply _ i⟩
  funext i
  obtain ⟨j, rfl⟩ := e i
  exact congrFun h j

/-- The slot copy `j` reads. -/
def srcK (j : Fin 4) : Fin 4 := if j.val < 2 then 0 else 2
/-- The slot copy `j` writes at its peer. -/
def dstK (j : Fin 4) : Fin 4 := if j.val < 2 then 1 else 3
/-- The batch row copy `j` carries. -/
def rowB (j : Fin 4) : Fin 2 := if j.val % 2 = 0 then 0 else 1

/-! ## The schedule, over what every device sends in every copy -/

/-- Paid to `d`'s barrier cell by `p1 d`: the two slots copies 0 and 1 of `d` land in. -/
def barPay1 (d : Dev nD) : sProp 𝕄 :=
  iprop((slotAny 1 0 (p1 d) ∗ slotAny 1 1 (p1 d)) ∗ reached ER (recvCell 0 (p1 d)) 0 ∗ reached ER (recvCell 1 (p1 d)) 0)
/-- Paid to `d`'s barrier cell by `p2 d`: the two slots copies 2 and 3 of `d` land in. -/
def barPay2 (d : Dev nD) : sProp 𝕄 :=
  iprop((slotAny 3 0 (p2 d) ∗ slotAny 3 1 (p2 d)) ∗ reached ER (recvCell 2 (p2 d)) 0 ∗ reached ER (recvCell 3 (p2 d)) 0)

/-- What every device sends in each of its four copies. -/
abbrev Sent (F : FTy → Type) : Type := Fin 4 → Dev nD → Vec F S1x1x128x512 .bf16

variable (X : Sent F)

/-- Copy `j`'s source slot back. -/
def sentPay (j : Fin 4) (c : Dev nD) : sProp 𝕄 := slotAny (F := F) (srcK j) (rowB j) c
/-- Copy `j`'s landing slot at `c`, holding what `c`'s peer sent. -/
def landPay (j : Fin 4) (c : Dev nD) : sProp 𝕄 := slotAt (dstK j) (rowB j) c (X j (peer j c))

omit [FloatOps F] in
instance sentPay_storable (j : Fin 4) (c : Dev nD) : BI.Storable (upEmb : UEmb _ 𝕄) (sentPay (F := F) j c) := by unfold sentPay; infer_instance
omit [FloatOps F] in
instance landPay_storable (j : Fin 4) (c : Dev nD) : BI.Storable (upEmb : UEmb _ 𝕄) (landPay (F := F) X j c) := by unfold landPay; infer_instance

/-- The copy whose send semaphore `q` is. -/
def sendOf (q : SemLoc sig) : Option (Fin 4) := (List.finRange 4).find? fun j => decide (q = .dma (sendS j))
/-- The copy whose receive semaphore `q` is. -/
def recvOf (q : SemLoc sig) : Option (Fin 4) := (List.finRange 4).find? fun j => decide (q = .dma (recvS j))

theorem sendOf_send (j : Fin 4) : sendOf (.dma (sendS j)) = some j := by revert j; decide
theorem recvOf_recv (j : Fin 4) : recvOf (.dma (recvS j)) = some j := by revert j; decide
theorem sendOf_recv (j : Fin 4) : sendOf (.dma (recvS j)) = none := by revert j; decide

abbrev IsBar (g : GSem nD τ sig) : Prop := g.1.2 = .tc ∧ g.2 = .reg barS
abbrev IsCopy (g : GSem nD τ sig) : Prop := g.1.2 = .tc ∧ ((sendOf g.2).isSome ∨ (recvOf g.2).isSome)

/-- One round on every cell: two duties on a barrier cell, one on the cells of the copies. -/
def talkRd : Rounds.Schedule (GSem nD τ sig) Bool 𝕄 where
  duties g r := if r = 0 ∧ IsBar g then Finset.univ else if r = 0 ∧ IsCopy g then {false} else ∅
  unitless _ := False
  amount g _ _ := if g.2 = .reg barS then 1 else N
  payload g _ d :=
    if g.2 = .reg barS then (if d then barPay1 g.1.1 else barPay2 g.1.1)
    else match sendOf g.2 with
      | some j => sentPay j g.1.1
      | none => match recvOf g.2 with
        | some j => landPay X j g.1.1
        | none => iprop(emp)
  amount_pos g _ _ _ := by
    by_cases h : g.2 = .reg barS
    · rw [if_pos h]; exact Nat.one_pos
    · rw [if_neg h]; exact N_pos

omit [FloatOps F] in
instance talkRd_payload_storable (g : GSem nD τ sig) (r : ℕ) (d : Bool) :
    BI.Storable (upEmb : UEmb _ 𝕄) ((talkRd (F := F) X).payload g r d) := by
  dsimp only [talkRd]
  unfold barPay1 barPay2
  (repeat' split) <;> infer_instance

section Sched
variable (c : Dev nD)

omit [FloatOps F] in
theorem duties_bar : (talkRd (F := F) X).duties (barCell c) 0 = Finset.univ := by dsimp only [talkRd]; exact if_pos ⟨rfl, rfl, rfl⟩
omit [FloatOps F] in
theorem duties_send (j : Fin 4) : (talkRd (F := F) X).duties (sendCell j c) 0 = {false} := by
  dsimp only [talkRd]; rw [if_neg (fun h => by cases h.2.2)]
  exact if_pos ⟨rfl, rfl, .inl (by rw [sendOf_send]; rfl)⟩
omit [FloatOps F] in
theorem duties_recv (j : Fin 4) : (talkRd (F := F) X).duties (recvCell j c) 0 = {false} := by
  dsimp only [talkRd]; rw [if_neg (fun h => by cases h.2.2)]
  exact if_pos ⟨rfl, rfl, .inr (by rw [recvOf_recv]; rfl)⟩
omit [FloatOps F] in
theorem duties_later (g : GSem nD τ sig) : ∀ r, 1 ≤ r → (talkRd (F := F) X).duties g r = ∅ :=
  fun r hr => by dsimp only [talkRd]; rw [if_neg fun h => by omega, if_neg fun h => by omega]

omit [FloatOps F] in
theorem amount_bar (d : Bool) : (talkRd (F := F) X).amount (barCell c) 0 d = 1 := by dsimp only [talkRd]; exact if_pos rfl
omit [FloatOps F] in
theorem amount_dma (q : DmaSem sig) (d : Bool) : (talkRd (F := F) X).amount ((c : Thread nD τ), .dma q) 0 d = N := by
  dsimp only [talkRd]; exact if_neg (fun h => by cases h)

omit [FloatOps F] in
theorem expect_bar : (talkRd (F := F) X).expect (barCell c) 0 = 2 := by
  unfold Schedule.expect Schedule.amountOf
  rw [duties_bar, Finset.sum_congr rfl fun d _ => amount_bar X c d, Finset.sum_const, Finset.card_univ, Fintype.card_bool, smul_eq_mul]
omit [FloatOps F] in
theorem expect_send (j : Fin 4) : (talkRd (F := F) X).expect (sendCell j c) 0 = N := by
  unfold Schedule.expect Schedule.amountOf; rw [duties_send X c j, Finset.sum_singleton, amount_dma]
omit [FloatOps F] in
theorem expect_recv (j : Fin 4) : (talkRd (F := F) X).expect (recvCell j c) 0 = N := by
  unfold Schedule.expect Schedule.amountOf; rw [duties_recv X c j, Finset.sum_singleton, amount_dma]

omit [FloatOps F] in
theorem payload_bar1 : (talkRd (F := F) X).payload (barCell c) 0 true = barPay1 c := by dsimp only [talkRd]; rw [if_pos rfl, if_pos rfl]
omit [FloatOps F] in
theorem payload_bar2 : (talkRd (F := F) X).payload (barCell c) 0 false = barPay2 c := by
  dsimp only [talkRd]; rw [if_pos rfl]; exact if_neg Bool.false_ne_true
omit [FloatOps F] in
theorem payload_send (j : Fin 4) (d : Bool) : (talkRd (F := F) X).payload (sendCell j c) 0 d = sentPay j c := by
  dsimp only [talkRd]; rw [if_neg (fun h => by cases h), sendOf_send]
omit [FloatOps F] in
theorem payload_recv (j : Fin 4) (d : Bool) : (talkRd (F := F) X).payload (recvCell j c) 0 d = landPay X j c := by
  dsimp only [talkRd]; rw [if_neg (fun h => by cases h), sendOf_recv, recvOf_recv]

omit [FloatOps F] in
theorem rest_bar : bigSep ((talkRd (F := F) X).duties (barCell c) 0 \ ∅) (fun d => (talkRd (F := F) X).payload (barCell c) 0 d) = iprop(barPay2 c ∗ barPay1 c) := by
  rw [Finset.sdiff_empty, duties_bar, bigSep_univ_eq_bigSepL [false, true] (by decide) (by decide), bigSepL_cons_cons, bigSepL_singleton,
    payload_bar2, payload_bar1]
  rfl
omit [FloatOps F] in
theorem rest_send (j : Fin 4) :
    bigSep ((talkRd (F := F) X).duties (sendCell j c) 0 \ ∅) (fun d => (talkRd (F := F) X).payload (sendCell j c) 0 d) = sentPay j c := by
  rw [Finset.sdiff_empty, duties_send X c j, bigSep_singleton, payload_send]
omit [FloatOps F] in
theorem rest_recv (j : Fin 4) :
    bigSep ((talkRd (F := F) X).duties (recvCell j c) 0 \ ∅) (fun d => (talkRd (F := F) X).payload (recvCell j c) 0 d) = landPay X j c := by
  rw [Finset.sdiff_empty, duties_recv X c j, bigSep_singleton, payload_recv]

end Sched

/-! ## What each device owes; the levels -/

/-- What device `c` still owes after its two signals and its first three, two, one, no copies are left. -/
def O3 (c : Dev nD) : CellTallies nD τ sig Unit := tallyAt (recvCell 3 (p2 c)) () N
def O2 (c : Dev nD) : CellTallies nD τ sig Unit := O3 c + tallyAt (recvCell 2 (p2 c)) () N
def O1 (c : Dev nD) : CellTallies nD τ sig Unit := O2 c + tallyAt (recvCell 1 (p1 c)) () N
def O0 (c : Dev nD) : CellTallies nD τ sig Unit := O1 c + tallyAt (recvCell 0 (p1 c)) () N
def OB (c : Dev nD) : CellTallies nD τ sig Unit := O0 c + tallyAt (barCell (p2 c)) () 1
/-- All that device `c` owes when the kernel starts: the four landings and the two barrier units. -/
def O₀ (c : Dev nD) : CellTallies nD τ sig Unit := OB c + tallyAt (barCell (p1 c)) () 1

def L (g : GSem nD τ sig) : Finset Unit := if g.1.2 = .tc then {()} else ∅
/-- Barrier cells stand at 1, the receive cells of the first exchange at 2, of the second at 3, all others at 0. -/
def lv (g : GSem nD τ sig) (_ : Unit) : ℕ :=
  if g.2 = .reg barS then 1 else match recvOf g.2 with | some j => if j.val < 2 then 2 else 3 | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (j : Fin 4) (c : Dev nD) : lv (recvCell j c) () = if j.val < 2 then 2 else 3 := by
  unfold lv; rw [if_neg (fun h => by cases h), recvOf_recv]

theorem O3_pos {c : Dev nD} {g : GSem nD τ sig} {u : Unit} (h : 0 < O3 c g u) : g = recvCell 3 (p2 c) := by
  unfold O3 at h
  rw [tallyAt_apply] at h
  by_contra hn
  rw [if_neg (fun h' => hn h'.1)] at h
  exact Nat.lt_irrefl 0 h
theorem add_pos {O : CellTallies nD τ sig Unit} {k : GSem nD τ sig} {n : ℕ} {g : GSem nD τ sig} {u : Unit}
    (h : 0 < (O + tallyAt k () n) g u) : 0 < O g u ∨ g = k := by
  rw [Pi.add_apply, Finsupp.add_apply, tallyAt_apply] at h
  by_contra hn; rw [not_or] at hn
  rw [if_neg (fun h' => hn.2 h'.1), Nat.add_zero] at h
  exact hn.1 h
theorem O2_pos {c : Dev nD} {g : GSem nD τ sig} {u : Unit} (h : 0 < O2 c g u) : ∃ j : Fin 4, 2 ≤ j.val ∧ g = recvCell j (p2 c) := by
  rcases add_pos h with h | h
  · exact ⟨3, by decide, O3_pos h⟩
  · exact ⟨2, by decide, h⟩
theorem O0_pos {c : Dev nD} {g : GSem nD τ sig} {u : Unit} (h : 0 < O0 c g u) : ∃ (j : Fin 4) (d : Dev nD), g = recvCell j d := by
  rcases add_pos h with h | h
  · rcases add_pos h with h | h
    · obtain ⟨j, -, h⟩ := O2_pos h; exact ⟨j, _, h⟩
    · exact ⟨1, _, h⟩
  · exact ⟨0, _, h⟩
theorem O₀_pos {c : Dev nD} {g : GSem nD τ sig} {u : Unit} (h : 0 < O₀ c g u) :
    (∃ (j : Fin 4) (d : Dev nD), g = recvCell j d) ∨ ∃ d : Dev nD, g = barCell d := by
  rcases add_pos h with h | h
  · rcases add_pos h with h | h
    · exact .inl (O0_pos h)
    · exact .inr ⟨_, h⟩
  · exact .inr ⟨_, h⟩

omit [FloatOps F] in
/-- A device may wait on a cell at level at most `b` while every cell it owes stands above `b`. -/
theorem mayWait_of (c : Dev nD) (sm : SemLoc sig) (O : CellTallies nD τ sig Unit) (b : ℕ) (hb : lv ((c : Thread nD τ), sm) () ≤ b)
    (hO : ∀ g u, 0 < O g u → g.1.2 = .tc ∧ b < lv g u) : (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

omit [FloatOps F] in
theorem mayWait_bar (c : Dev nD) : (levAts L lv : sProp 𝕄) ⊢ MayWait (c : Thread nD τ) (.reg barS) () (O0 c) :=
  mayWait_of c _ _ 1 (le_of_eq (lv_bar c)) fun g u hg => by
    obtain ⟨j, d, rfl⟩ := O0_pos hg
    exact ⟨rfl, by rw [lv_recv]; split <;> decide⟩
omit [FloatOps F] in
theorem mayWait_recv0 (c : Dev nD) : (levAts L lv : sProp 𝕄) ⊢ MayWait (c : Thread nD τ) (.dma (recvS 0)) () (O2 c) :=
  mayWait_of c _ _ 2 (le_of_eq (lv_recv 0 c)) fun g u hg => by
    obtain ⟨j, hj, rfl⟩ := O2_pos hg
    exact ⟨rfl, by rw [lv_recv, if_neg (by omega)]; decide⟩
omit [FloatOps F] in
theorem mayWait_recv1 (c : Dev nD) : (levAts L lv : sProp 𝕄) ⊢ MayWait (c : Thread nD τ) (.dma (recvS 1)) () (O3 c) :=
  mayWait_of c _ _ 2 (le_of_eq (lv_recv 1 c)) fun g u hg => by
    rw [O3_pos hg]
    exact ⟨rfl, by rw [lv_recv]; decide⟩
omit [FloatOps F] in
/-- The pipeline's own waits, on semaphores at level 0, under the debts of the start or under none. -/
theorem mayWait_stage (c : Dev nD) (q : DmaSem sig) (hq : recvOf (.dma q) = none) (O : CellTallies nD τ sig Unit) (hO : O = O₀ c ∨ O = 0) :
    (levAts L lv : sProp 𝕄) ⊢ MayWait (c : Thread nD τ) (.dma q) () O := by
  rcases hO with rfl | rfl
  · refine mayWait_of c _ _ 0 ?_ fun g u hg => ?_
    · unfold lv; rw [if_neg (fun h => by cases h), hq]
    · rcases O₀_pos hg with ⟨j, d, rfl⟩ | ⟨d, rfl⟩
      · exact ⟨rfl, by rw [lv_recv]; split <;> decide⟩
      · exact ⟨rfl, by rw [lv_bar]; decide⟩
  · rw [MayWait_zero]; iintro -; iempintro

end Cert.KernelIdeal.Talk

end
-- ==== Proof.KernelIdeal.Values.lean ====
/-
What one device computes, block by block, as plain functions of its five inputs: the attention of its
eight heads on one batch row, the product with its block of the output projection, and the sums it
forms from the blocks its partners send.
-/
module

public import proofs.«01_k».proof.Proof.KernelIdeal.Protocol
public import Idealize.ShloMosaic.Lib.Writes
public import Idealize.ShloMosaic.Lib.ValueIdxCore

@[expose] public section

noncomputable section

namespace Cert.KernelIdeal.Talk

open Cert.KernelIdeal Cert.KernelIdeal.Gen
open Idealize.ShloMosaic
open Idealize.ShloMosaic.TcCoe
open Idealize.SL.Sem
open Idealize.ShloMosaic.ValueIdx

variable {F : FTy → Type} [FloatOps F]

abbrev xM : Memref sig .tc .vmem S2x128x512 .bf16 := Memref.whole cc0_stg0_0
abbrev qM : Memref sig .tc .vmem S512x512 .bf16 := Memref.whole cc0_stg1_0
abbrev woM : Memref sig .tc .vmem S512x512 .bf16 := Memref.whole cc0_stg2_0
abbrev kM : Memref sig .tc .vmem S2x8x128x64 .bf16 := Memref.whole cc0_stg3_0
abbrev vM : Memref sig .tc .vmem S2x8x128x64 .bf16 := Memref.whole cc0_stg4_0
abbrev oM : Memref sig .tc .vmem S2x128x512 .f32 := Memref.whole cc0_stg5_0

/-- The five blocks a device's kernel reads: the activations, its columns of the query projection, its rows of the
    output projection, and the keys and values of its eight heads. -/
structure Ins (F : FTy → Type) where
  x : (cc0_stg0_0 : Ref sig .tc).ty.Contents (Elt F)
  wq : (cc0_stg1_0 : Ref sig .tc).ty.Contents (Elt F)
  wo : (cc0_stg2_0 : Ref sig .tc).ty.Contents (Elt F)
  k : (cc0_stg3_0 : Ref sig .tc).ty.Contents (Elt F)
  v : (cc0_stg4_0 : Ref sig .tc).ty.Contents (Elt F)

/-! ## The loads -/

theorem row_inb (b : Fin 2) : ∀ a, (![b.val, 0, 0] : Fin 3 → ℕ) a + S1x128x512.size a ≤ S2x128x512.size a := by
  revert b; decide
theorem head_inb (b : Fin 2) (h : Fin 8) : ∀ a, (![b.val, h.val, 0, 0] : Fin 4 → ℕ) a + S1x1x128x64.size a ≤ S2x8x128x64.size a := by
  revert b h; decide

/-- Batch row `b` of a [2, 128, 512] buffer, as a box. -/
abbrev rowR (b : Fin 2) : Rect S2x128x512 := Rect.unit (s := S2x128x512) ![b.val, 0, 0] S1x128x512.size (row_inb b)
/-- Batch row `b`, head `h` of a [2, 8, 128, 64] buffer, as a box. -/
abbrev headR (b : Fin 2) (h : Fin 8) : Rect S2x8x128x64 := Rect.unit (s := S2x8x128x64) ![b.val, h.val, 0, 0] S1x1x128x64.size (head_inb b h)
/-- The whole of a [512, 512] buffer, as a box. -/
abbrev fullR : Rect S512x512 := Rect.unit (s := S512x512) ![0, 0] S512x512.size inb_S512x512_S512x512_0_0

def ldX (b : Fin 2) (I : Ins F) : Vec F S1x128x512 .bf16 := xM.view.readAt (Elt F) (rowR b).toLoadRect I.x
def ldQ (I : Ins F) : Vec F S512x512 .bf16 := qM.view.readAt (Elt F) fullR.toLoadRect I.wq
def ldO (I : Ins F) : Vec F S512x512 .bf16 := woM.view.readAt (Elt F) fullR.toLoadRect I.wo
def ldK (b : Fin 2) (h : Fin 8) (I : Ins F) : Vec F S1x1x128x64 .bf16 := kM.view.readAt (Elt F) (headR b h).toLoadRect I.k
def ldV (b : Fin 2) (h : Fin 8) (I : Ins F) : Vec F S1x1x128x64 .bf16 := vM.view.readAt (Elt F) (headR b h).toLoadRect I.v

/-! ## One head, one batch row -/

theorem head_slices (h : Fin 8) : S128x512.Slices ![0, 64 * h.val] S128x64 := by revert h; decide

/-- The queries of one batch row: the row times the device's query projection. -/
def qRow (x : Vec F S1x128x512 .bf16) (wq : Vec F S512x512 .bf16) : FVec F S128x512 .f32 :=
  matmul dot_S128x512_S512x512_S128x512_1_0_0_1_n_n none (shapeCast S128x512 x shapeCasts_S1x128x512_S128x512)
    (shapeCast S512x512 wq shapeCasts_S512x512_S512x512) (constant S128x512 .f32 0x00000000#32)

/-- The scores of head `h`: its queries, scaled, against its keys. -/
def scores (h : Fin 8) (q : FVec F S128x512 .f32) (k : Vec F S1x1x128x64 .bf16) : FVec F S128x128 .f32 :=
  matmul dot_S128x64_S128x64_S128x128_1_1_0_0_n_n none
    (truncf .bf16 (mulf (extractStridedSlice S128x64 ![0, 64 * h.val] q (head_slices h))
      (broadcast S128x64 (Scalar.ofBits .f32 0x3E000000#32 : F .f32))) bitsLt_bf16_f32)
    (shapeCast S128x64 k shapeCasts_S1x1x128x64_S128x64) (constant S128x128 .f32 0x00000000#32)

/-- The exponentials of a matrix of scores less its rows' maxima. -/
def expRows (s : FVec F S128x128 .f32) : FVec F S128x128 .f32 :=
  exp (subf s (broadcastTo S128x128
    (shapeCast S128x1 (multiReduction .maximumf [1] S128 s 0xFF800000#32 reduces_S128x128_S128 (.inl rfl) rfl) shapeCasts_S128_S128x1)
    broadcasts_S128x1_S128x128))

/-- The weighted values: the exponentials times the values, divided by the rows' sums. -/
def weigh (p : FVec F S128x128 .f32) (v : Vec F S1x1x128x64 .bf16) : FVec F S128x64 .bf16 :=
  truncf .bf16 (divf
    (matmul dot_S128x128_S128x64_S128x64_1_0_0_1_n_n none (truncf .bf16 p bitsLt_bf16_f32)
      (shapeCast S128x64 v shapeCasts_S1x1x128x64_S128x64) (constant S128x64 .f32 0x00000000#32))
    (broadcastTo S128x64
      (shapeCast S128x1 (multiReduction .add [1] S128 p 0x00000000#32 reduces_S128x128_S128 (.inl rfl) rfl) shapeCasts_S128_S128x1)
      broadcasts_S128x1_S128x64)) bitsLt_bf16_f32

/-- The attention of head `h` on one batch row. -/
def headV (h : Fin 8) (q : FVec F S128x512 .f32) (k v : Vec F S1x1x128x64 .bf16) : FVec F S128x64 .bf16 :=
  weigh (expRows (scores h q k)) v

/-- The device's part of one batch row of the result: its heads side by side, times its rows of the output projection. -/
def partOf (q : FVec F S128x512 .f32) (wo : Vec F S512x512 .bf16) (k v : Fin 8 → Vec F S1x1x128x64 .bf16) : FVec F S128x512 .f32 :=
  matmul dot_S128x512_S512x512_S128x512_1_0_0_1_n_n none
    (concatenate S128x512 1 [⟨S128x64, headV 0 q (k 0) (v 0)⟩, ⟨S128x64, headV 1 q (k 1) (v 1)⟩, ⟨S128x64, headV 2 q (k 2) (v 2)⟩,
      ⟨S128x64, headV 3 q (k 3) (v 3)⟩, ⟨S128x64, headV 4 q (k 4) (v 4)⟩, ⟨S128x64, headV 5 q (k 5) (v 5)⟩,
      ⟨S128x64, headV 6 q (k 6) (v 6)⟩, ⟨S128x64, headV 7 q (k 7) (v 7)⟩]
      concatenates_S128x64_S128x64_S128x64_S128x64_S128x64_S128x64_S128x64_S128x64_S128x512_d1)
    (shapeCast S512x512 wo shapeCasts_S512x512_S512x512) (constant S128x512 .f32 0x00000000#32)

/-- The part of batch row `b` of a device with inputs `I`. -/
def part (b : Fin 2) (I : Ins F) : FVec F S128x512 .f32 :=
  partOf (qRow (ldX b I) (ldQ I)) (ldO I) (fun h => ldK b h I) (fun h => ldV b h I)

/-! ## The sums -/

/-- A [128, 512] block as a batch row of the result. -/
def asRow (a : FVec F S128x512 .f32) : Vec F S1x128x512 .f32 := shapeCast S1x128x512 a shapeCasts_S128x512_S1x128x512
/-- A [128, 512] block rounded, as the slot a copy sends. -/
def asSlot (a : FVec F S128x512 .f32) : Vec F S1x1x128x512 .bf16 :=
  shapeCast S1x1x128x512 (truncf .bf16 a bitsLt_bf16_f32) shapeCasts_S128x512_S1x1x128x512
/-- A batch row of the result plus the block of a slot. -/
def addSlot (o : Vec F S1x128x512 .f32) (s : Vec F S1x1x128x512 .bf16) : FVec F S128x512 .f32 :=
  addf (shapeCast S128x512 o shapeCasts_S1x128x512_S128x512)
    (extf .f32 (shapeCast S128x512 s shapeCasts_S1x1x128x512_S128x512) bitsLt_bf16_f32)

variable (In : Dev nD → Ins F)

/-- What device `c` sends of batch row `b` to its first partner: its part. -/
def sentA (b : Fin 2) (c : Dev nD) : Vec F S1x1x128x512 .bf16 := asSlot (part b (In c))
/-- The sum of the first exchange at device `c`: its part and its partner's. -/
def sumA (b : Fin 2) (c : Dev nD) : FVec F S128x512 .f32 := addSlot (asRow (part b (In c))) (sentA In b (p1 c))
/-- What device `c` sends of batch row `b` to its second partner: that sum. -/
def sentB (b : Fin 2) (c : Dev nD) : Vec F S1x1x128x512 .bf16 := asSlot (sumA In b c)
/-- Batch row `b` of the result at device `c`: its sum and its second partner's. -/
def sumB (b : Fin 2) (c : Dev nD) : FVec F S128x512 .f32 := addSlot (asRow (sumA In b c)) (sentB In b (p2 c))

/-- What every device sends in its four copies. -/
def sentOf : Sent F := fun j c => match j with
  | 0 => sentA In 0 c
  | 1 => sentA In 1 c
  | 2 => sentB In 0 c
  | 3 => sentB In 1 c

/-- A result buffer from its two batch rows. -/
def outRows (w0 w1 : Vec F S1x128x512 .f32) : (cc0_stg5_0 : Ref sig .tc).ty.Contents (Elt F) :=
  fun i => if (i 0).val = 0 then w0 (ix3 (0 : Fin 1) (i 1) (i 2)) else w1 (ix3 (0 : Fin 1) (i 1) (i 2))

/-- Once both batch rows are written over it, a result buffer holds just them. -/
theorem out_written (o : (cc0_stg5_0 : Ref sig .tc).ty.Contents (Elt F)) (w0 w1 : Vec F S1x128x512 .f32) (rest : List (View.Piece (Elt F) S2x128x512 .f32)) :
    oM.view.writes (Elt F) o (⟨rowR 1, w1⟩ :: ⟨rowR 0, w0⟩ :: rest) = outRows w0 w1 := by
  have e : ∀ f : (cc0_stg5_0 : Ref sig .tc).ty.Contents (Elt F), oM.view.read (Elt F) f = f := fun f => rfl
  rw [← e (oM.view.writes (Elt F) o _)]
  funext i
  unfold outRows
  have h0 : (i 0).val < 2 := (i 0).isLt
  by_cases h : (i 0).val = 0
  · rw [if_pos h, View.read_writes_cons_miss_of_axis _ _ _ _ i 0 1 1 rfl rfl rfl (.inl (by omega))]
    exact View.read_writes_cons_hit_of_coords oM.view o (rowR 0) w0 rest (ix3 (0 : Fin 1) (i 1) (i 2)) i fun a => match a with
      | ⟨0, _⟩ => h.trans rfl
      | ⟨1, _⟩ => ((Nat.zero_add _).trans (Nat.one_mul _)).symm
      | ⟨2, _⟩ => ((Nat.zero_add _).trans (Nat.one_mul _)).symm
  · rw [if_neg h]
    exact View.read_writes_cons_hit_of_coords oM.view o (rowR 1) w1 _ (ix3 (0 : Fin 1) (i 1) (i 2)) i fun a => match a with
      | ⟨0, _⟩ => (show (i 0).val = 1 by omega).trans rfl
      | ⟨1, _⟩ => ((Nat.zero_add _).trans (Nat.one_mul _)).symm
      | ⟨2, _⟩ => ((Nat.zero_add _).trans (Nat.one_mul _)).symm

/-- The result buffer of device `c` when its kernel returns. -/
def outOf (c : Dev nD) : (cc0_stg5_0 : Ref sig .tc).ty.Contents (Elt F) := outRows (asRow (sumB In 0 c)) (asRow (sumB In 1 c))

end Cert.KernelIdeal.Talk

end
-- ==== Proof.KernelIdeal.Steps.lean ====
/-
The remote steps of the kernel as rules over the talk's schedule: a copy, the wait for a landing, the wait for a
copy to have left, the barrier's signals and its wait.
-/
module

public import proofs.«01_k».proof.Proof.KernelIdeal.Values

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Sent F)

abbrev 𝒱₀ : Variants := Variants.none

/-- What follows a return goes on from the returned value. -/
theorem after_ret {E : Type → Type} {α β : Type} (a : α) (k : α → Prog E β) : Prog.bind (Prog.ret a) k = k a := rfl

/-- After its round a cell closes: its counter comes back at zero. -/
theorem close (κ : ℕ) (g : GSem nD τ sig) :
    iprop(cellInv ER (talkRd X) κ g ∗ atPos ER g (0 + 1) ∅ 0) ⊢ (|={Set.univ}=> semVal g 0 : sProp 𝕄) :=
  Rounds.cell_close ER (talkRd X) (Set.mem_univ κ) (fun h => h) (duties_later X g)

omit [FloatOps F] in
/-- A block stored in a slot is the block loaded from it. -/
theorem stored_read (k : Fin 4) (b : Fin 2) (f : (cc0_scratch0 : Ref sig .tc).ty.Contents (Elt F)) (w : Vec F S1x1x128x512 .bf16) :
    cM.view.readAt (Elt F) (slotR k b).toLoadRect ((cM.access (slotR k b)).write (Elt F) f w Finset.univ) = w := by
  exact View.read_write_univ (Val := Elt F) (v := cM.access (slotR k b)) f w

/-- Copy `j` from slot `(k, b)` to slot `(k', b)` of device `d`: the source slot goes to the send cell, the landing slot to
    `d`'s receive cell, at the block the source held. -/
theorem wp_copy (c : Dev nD) (j k k' : Fin 4) (b : Fin 2) (d : Dev nD) (hk : srcK j = k) (hk' : dstK j = k') (hb : rowB j = b) (hd : peer j c = d)
    {src dst : Memref sig .tc .vmem S128x512 .bf16} {sS sR : DmaSem sig} {d' : Dev nD}
    (hsM : src = slotM k b) (hdM : dst = slotM k' b) (hsS : sS = sendS j) (hsR : sR = recvS j) (hd' : d' = d)
    (κ₁ κ₂ : ℕ) (O : CellTallies nD τ sig Unit) {W : Waits sig Unit} {α : Type} {Q : α → sProp 𝕄}
    (f : Buf (Elt F) ((slotM k b).view.loc (c : Thread nD τ))) (hX : cM.view.readAt (Elt F) (slotR k b).toLoadRect f = X j c)
    {hsrc : src.view.WordExact} {hdst : dst.view.WordExact} {hsc : dst.view.ref.isScScratch = false}
    {hsem : DmaTarget.Typed .vmem (.dma sR) (.remote (d' : Thread nD τ) dst (.dma sS) hsc)}
    {K : PUnit → Prog (TpuEff nD τ sig (Elt F) Λ₀ .tc) α} :
    iprop(cellInv ER (talkRd X) κ₁ (sendCell j c) ∗ cellInv ER (talkRd X) κ₂ (recvCell j d)
        ∗ slotPts k b c f ∗ slotAny k' b d ∗ owes (c : Thread nD τ) (O + tallyAt (recvCell j d) () N) W
        ∗ dutyTok ER (sendCell j c) 0 false ∗ reached ER (sendCell j c) 0
        ∗ dutyTok ER (recvCell j d) 0 false ∗ reached ER (recvCell j d) 0)
      ⊢ iprop(((cred (tallyAt (sendCell j c) () N) ∗ owes (c : Thread nD τ) O W) -∗ wp frame (wpE (defs₀ (F := F)) 𝒱₀ (c : Thread nD τ) none) Set.univ (K ⟨⟩) Q)
          -∗ wp frame (wpE (defs₀ (F := F)) 𝒱₀ (c : Thread nD τ) none) Set.univ (.op (.enqueueDma src (.remote (d' : Thread nD τ) dst (.dma sS) hsc) (.dma sR) hsrc hdst hsem) K) Q) := by
  subst hsM hdM hsS hsR hd' hk hk' hb hd
  unfold slotAny
  iintro ⟨#Hi, #Hi', Hs, ⟨%fd, Hd⟩, HO, Ht, Hr, Ht', Hr'⟩ Hk
  unfold slotPts
  iapply (Rounds.wp_send_pointsTo 𝒱₀ ER (talkRd X) (c : Thread nD τ) none (κ₁ := κ₁) (κ₂ := κ₂) (r₁ := 0) (r₂ := 0) (d₁ := false) (d₂ := false) (fd := fd)
    (by rw [duties_send X c j]; exact Finset.mem_singleton_self _) (by rw [duties_recv X (peer j c) j]; exact Finset.mem_singleton_self _)
    () () N rfl (amount_dma X c (sendS j) false) (amount_dma X (peer j c) (recvS j) false) O rfl
    (by
      rw [payload_send X c j]
      unfold sentPay slotAny slotPts
      iintro H; iexists f; iexact H)
    (by
      rw [payload_recv X (peer j c) j]
      unfold landPay slotAt slotPts
      rw [peer_peer]
      iintro H
      iexists _
      isplitr
      · ipureintro; exact (landed_read (srcK j) (dstK j) (rowB j) (rowB j) f fd).trans hX
      · iexact H)) $$ [Hs Hd HO Ht Hr Ht' Hr']
  · isplitr; · iexact Hi
    isplitr; · iexact Hi'
    isplitl [Hs]; · iexact Hs
    isplitl [Hd]; · iexact Hd
    isplitl [HO]; · iexact HO
    isplitl [Ht]; · iexact Ht
    isplitl [Hr]; · iexact Hr
    isplitl [Ht'] <;> iassumption
  iexact Hk

/-- A copy of a [128, 512] block counts the same credit, whichever slot it goes to. -/
theorem credit_eq (d : Memref sig .tc .vmem S128x512 .bf16) : d.view.dmaCredit = N := rfl

/-- The wait for a landing: the slot comes with the block the peer sent, and the receive cell's counter is back at zero. -/
theorem wp_landed (c : Dev nD) (j k : Fin 4) (b : Fin 2) (d : Dev nD) (hk : dstK j = k) (hb : rowB j = b) (hd : peer j c = d)
    (κ : ℕ) {O : CellTallies nD τ sig Unit} {W : Waits sig Unit} {α : Type} {Q : α → sProp 𝕄}
    (hO : (levAts L lv : sProp 𝕄) ⊢ MayWait (c : Thread nD τ) (.dma (recvS j)) () O)
    {s : DmaSem sig} (hs : s = recvS j) {src dst : Memref sig .tc .vmem S128x512 .bf16}
    {hsrc : src.view.WordExact} {hdst : dst.view.WordExact}
    {K : PUnit → Prog (TpuEff nD τ sig (Elt F) Λ₀ .tc) α} :
    iprop(cellInv ER (talkRd X) κ (recvCell j c) ∗ cred (tallyAt (recvCell j c) () N) ∗ owes (c : Thread nD τ) O W ∗ levAts L lv
        ∗ atPos ER (recvCell j c) 0 ∅ 0)
      ⊢ iprop(((owes (c : Thread nD τ) O (insert (.dma (recvS j), ()) W) ∗ semVal (recvCell j c) 0 ∗ slotAt k b c (X j d)) -∗ wp frame (wpE (defs₀ (F := F)) 𝒱₀ (c : Thread nD τ) none) Set.univ (K ⟨⟩) Q)
          -∗ wp frame (wpE (defs₀ (F := F)) 𝒱₀ (c : Thread nD τ) none) Set.univ (.op (.waitDma2 s src dst hsrc hdst) K) Q) := by
  subst hs hk hb hd
  iintro ⟨#Hi, Hc, HO, Hl, Hat⟩ Hk
  ihave Hm := hO $$ Hl
  iapply (Rounds.wp_wait_rest_token 𝒱₀ ER (talkRd X) (c : Thread nD τ) none (κ := κ)
    (fun K => (wpE_waitDma2_eq 𝒱₀ (c : Thread nD τ) none Set.univ K).trans (by rw [credit_eq])) (Set.mem_univ _) () (O := O) (W := W) (R := 0) (m := 0) (T := ∅)
    ((Nat.zero_add _).trans (expect_recv X c j).symm)) $$ [Hc HO Hm Hat]
  · isplitr; · iexact Hi
    isplitl [Hc]; · iexact Hc
    isplitl [HO]; · iexact HO
    isplitl [Hm] <;> iassumption
  iintro ⟨HO, Hat, -, Hp⟩
  ihave Hp := (Entails.of_eq (rest_recv X c j)) $$ Hp
  imod (close X κ (recvCell j c)) $$ [Hat] with Hz
  · isplitr; · iexact Hi
    iexact Hat
  iapply Hk
  isplitl [HO]; · iexact HO
  isplitl [Hz]; · iexact Hz
  unfold landPay
  iexact Hp

/-- The payload of a landing's round is the landing slot, at the block the peer sent. -/
theorem paid_recv (c : Dev nD) (j : Fin 4) :
    bigSep ((talkRd (F := F) X).duties (recvCell j c) 0) (fun d => (talkRd (F := F) X).payload (recvCell j c) 0 d) = landPay X j c := by
  rw [duties_recv X c j, bigSep_singleton, payload_recv]
omit [FloatOps F] in
/-- The payload of a departure's round is the source slot. -/
theorem paid_send (c : Dev nD) (j : Fin 4) :
    bigSep ((talkRd (F := F) X).duties (sendCell j c) 0) (fun d => (talkRd (F := F) X).payload (sendCell j c) 0 d) = sentPay j c := by
  rw [duties_send X c j, bigSep_singleton, payload_send]
omit [FloatOps F] in
/-- A landing slot, spelled out. -/
theorem landed_eq (j k : Fin 4) (b : Fin 2) (d c : Dev nD) (hk : dstK j = k) (hb : rowB j = b) (hd : peer j c = d) :
    landPay X j c = iprop(∃ f, ⌜cM.view.readAt (Elt F) (slotR k b).toLoadRect f = X j d⌝
      ∗ (slotM k b).view.loc (c : Thread nD τ) ↦[(slotM k b).view.set]{fullShare} f) := by
  subst hk hb hd; rfl

/-- The signal to the first partner: the two landing slots of the first exchange go with it. -/
theorem wp_signal1 (c : Dev nD) (κ : ℕ) {W : Waits sig Unit} {α : Type} {Q : α → sProp 𝕄} {n : ℕ} (hn : n = 1)
    {K : PUnit → Prog (TpuEff nD τ sig (Elt F) Λ₀ .tc) α} :
    iprop(cellInv ER (talkRd X) κ (barCell (p1 c)) ∗ owes (c : Thread nD τ) (O₀ c) W ∗ dutyTok ER (barCell (p1 c)) 0 true
        ∗ (slotAny 1 0 c ∗ slotAny 1 1 c) ∗ (reached ER (recvCell 0 c) 0 ∗ reached ER (recvCell 1 c) 0) ∗ reached ER (barCell (p1 c)) 0)
      ⊢ iprop((owes (c : Thread nD τ) (OB c) W -∗ wp frame (wpE (defs₀ (F := F)) 𝒱₀ (c : Thread nD τ) none) Set.univ (K ⟨⟩) Q) -∗ wp frame (wpE (defs₀ (F := F)) 𝒱₀ (c : Thread nD τ) none) Set.univ (.op (.semSignal (p1 c : Thread nD τ) barS n) K) Q) := by
  subst hn
  iintro ⟨#Hi, HO, Ht, Hs, Hr, Hr'⟩ Hk
  iapply (Rounds.wp_signal 𝒱₀ ER (talkRd X) (c : Thread nD τ) none (dst := (p1 c : Thread nD τ)) (sem := barS) (r := 0) (d := true) (κ := κ)
    (by rw [duties_bar]; exact Finset.mem_univ _) (amount_bar X (p1 c) true) () (OB c) rfl) $$ [HO Ht Hs Hr Hr']
  · isplitr; · iexact Hi
    isplitl [HO]; · iexact HO
    isplitl [Ht]; · iexact Ht
    isplitl [Hs Hr]
    · rw [payload_bar1]; unfold barPay1; rw [p1_p1]
      isplitl [Hs] <;> iassumption
    · iexact Hr'
  iexact Hk

/-- The signal to the second partner: the two landing slots of the second exchange go with it. -/
theorem wp_signal2 (c : Dev nD) (κ : ℕ) {W : Waits sig Unit} {α : Type} {Q : α → sProp 𝕄} {n : ℕ} (hn : n = 1)
    {K : PUnit → Prog (TpuEff nD τ sig (Elt F) Λ₀ .tc) α} :
    iprop(cellInv ER (talkRd X) κ (barCell (p2 c)) ∗ owes (c : Thread nD τ) (OB c) W ∗ dutyTok ER (barCell (p2 c)) 0 false
        ∗ (slotAny 3 0 c ∗ slotAny 3 1 c) ∗ (reached ER (recvCell 2 c) 0 ∗ reached ER (recvCell 3 c) 0) ∗ reached ER (barCell (p2 c)) 0)
      ⊢ iprop((owes (c : Thread nD τ) (O0 c) W -∗ wp frame (wpE (defs₀ (F := F)) 𝒱₀ (c : Thread nD τ) none) Set.univ (K ⟨⟩) Q) -∗ wp frame (wpE (defs₀ (F := F)) 𝒱₀ (c : Thread nD τ) none) Set.univ (.op (.semSignal (p2 c : Thread nD τ) barS n) K) Q) := by
  subst hn
  iintro ⟨#Hi, HO, Ht, Hs, Hr, Hr'⟩ Hk
  iapply (Rounds.wp_signal 𝒱₀ ER (talkRd X) (c : Thread nD τ) none (dst := (p2 c : Thread nD τ)) (sem := barS) (r := 0) (d := false) (κ := κ)
    (by rw [duties_bar]; exact Finset.mem_univ _) (amount_bar X (p2 c) false) () (O0 c) rfl) $$ [HO Ht Hs Hr Hr']
  · isplitr; · iexact Hi
    isplitl [HO]; · iexact HO
    isplitl [Ht]; · iexact Ht
    isplitl [Hs Hr]
    · rw [payload_bar2]; unfold barPay2; rw [p2_p2]
      isplitl [Hs] <;> iassumption
    · iexact Hr'
  iexact Hk

/-- The barrier: both partners' landing slots come with its two units, and the cell's counter is back at zero. -/
theorem wp_barrier (c : Dev nD) (κ : ℕ) {W : Waits sig Unit} {α : Type} {Q : α → sProp 𝕄}
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.reg barS) 2 K)
    {K : PUnit → Prog (TpuEff nD τ sig (Elt F) Λ₀ .tc) α} :
    iprop(cellInv ER (talkRd X) κ (barCell c) ∗ cred (tallyAt (barCell c) () 2) ∗ owes (c : Thread nD τ) (O0 c) W ∗ levAts L lv
        ∗ atPos ER (barCell c) 0 ∅ 0)
      ⊢ iprop(((owes (c : Thread nD τ) (O0 c) (insert (.reg barS, ()) W) ∗ semVal (barCell c) 0 ∗ barPay2 c ∗ barPay1 c) -∗ wp frame (wpE (defs₀ (F := F)) 𝒱₀ (c : Thread nD τ) none) Set.univ (K ⟨⟩) Q)
          -∗ wp frame (wpE (defs₀ (F := F)) 𝒱₀ (c : Thread nD τ) none) Set.univ (.op w K) Q) := by
  iintro ⟨#Hi, Hc, HO, Hl, Hat⟩ Hk
  ihave Hm := (mayWait_bar c) $$ Hl
  iapply (Rounds.wp_wait_rest_token 𝒱₀ ER (talkRd X) (c : Thread nD τ) none (κ := κ) hw (Set.mem_univ _) () (O := O0 c) (W := W) (R := 0) (m := 0) (T := ∅)
    ((Nat.zero_add _).trans (expect_bar X c).symm)) $$ [Hc HO Hm Hat]
  · isplitr; · iexact Hi
    isplitl [Hc]; · iexact Hc
    isplitl [HO]; · iexact HO
    isplitl [Hm] <;> iassumption
  iintro ⟨HO, Hat, -, Hp⟩
  ihave Hp := (Entails.of_eq (rest_bar X c)) $$ Hp
  imod (close X κ (barCell c)) $$ [Hat] with Hz
  · isplitr; · iexact Hi
    iexact Hat
  iapply Hk
  isplitl [HO]; · iexact HO
  isplitl [Hz]; · iexact Hz
  iexact Hp

end Cert.KernelIdeal.Talk

end
-- ==== Proof.KernelIdeal.Chain.lean ====
/-
The payloads of the kernel's stores, as its loads put them together, are the device's part and the sums it forms.
-/
module

public import proofs.«01_k».proof.Proof.KernelIdeal.Values
public import Idealize.ShloMosaic.Lib.Pipeline.ReadBack

@[expose] public section

noncomputable section

namespace Cert.KernelIdeal.Talk

open Cert.KernelIdeal Cert.KernelIdeal.Gen
open Idealize.ShloMosaic

variable {F : FTy → Type} [FloatOps F]

/-- The first batch row's store holds the device's part of it. -/
theorem part_row0 (x : Vec F S1x128x512 .bf16) (wq wo : Vec F S512x512 .bf16) (k v : Fin 8 → Vec F S1x1x128x64 .bf16) :
    k0_pay22 (k0_pay2 wo) (k0_pay7 (k0_pay4 (v 0)) (k0_pay5 wq x (k 0)) (k0_pay6 wq x (k 0)))
      (k0_pay8 (k0_pay3 wq x) (k 1) (v 1)) (k0_pay11 (k0_pay9 (k0_pay3 wq x)) (k0_pay10 (k 2)) (v 2))
      (k0_pay12 (k0_pay3 wq x) (k 3) (v 3)) (k0_pay14 (k0_pay13 (k0_pay3 wq x)) (k 4) (v 4))
      (k0_pay18 (k0_pay16 (k0_pay3 wq x) (k 5) (v 5)) (k0_pay17 (k0_pay3 wq x) (k 5)))
      (k0_pay19 (k0_pay3 wq x) (k 6) (v 6)) (k0_pay20 (v 7)) (k0_pay21 (k0_pay3 wq x) (k 7))
      = partOf (qRow x wq) wo k v := rfl

/-- The second batch row's store holds the device's part of it. -/
theorem part_row1 (x : Vec F S1x128x512 .bf16) (wq wo : Vec F S512x512 .bf16) (k v : Fin 8 → Vec F S1x1x128x64 .bf16) :
    k0_pay39 (k0_pay2 wo) (k0_pay26 (k0_pay1 wq) (k0_pay25 x)) (k0_pay27 (k0_pay1 wq) (k0_pay25 x) (k 0) (v 0))
      (k0_pay30 (k0_pay28 (v 1)) (k0_pay29 (k0_pay1 wq) (k0_pay25 x) (k 1)))
      (k0_pay31 (k0_pay26 (k0_pay1 wq) (k0_pay25 x)) (k 2) (v 2))
      (k0_pay34 (k0_pay32 (k0_pay26 (k0_pay1 wq) (k0_pay25 x))) (k0_pay33 (k 3)) (v 3))
      (k0_pay35 (k0_pay26 (k0_pay1 wq) (k0_pay25 x)) (k 4) (v 4))
      (k0_pay37 (k0_pay36 (k0_pay26 (k0_pay1 wq) (k0_pay25 x))) (k 5) (v 5))
      (k0_pay38 (k0_pay26 (k0_pay1 wq) (k0_pay25 x)) (k 6) (v 6)) (k 7) (v 7)
      = partOf (qRow x wq) wo k v := rfl

/-- A load of a batch row of the result reads what was last stored there. -/
theorem out_hit (b : Fin 2) (w : Vec F S1x128x512 .f32) (L : List (View.Piece (Elt F) S2x128x512 .f32)) :
    oM.view.readCov (⟨rowR b, w⟩ :: L) (rowR b).toLoadRect = w := View.readCov_cons_toLoadRect _ _ _ _

/-- A load of a batch row of the result passes over a store of the other. -/
theorem out_pass (b : Fin 2) (w : Vec F S1x128x512 .f32) (L : List (View.Piece (Elt F) S2x128x512 .f32)) :
    oM.view.readCov (⟨rowR (1 - b), w⟩ :: L) (rowR b).toLoadRect = oM.view.readCov L (rowR b).toLoadRect :=
  View.readCov_skip _ _ _ _ _ (by revert b; decide)

/-- A load of a batch row of the result, after a store of it and then of the other. -/
theorem out_second (b : Fin 2) (w w' : Vec F S1x128x512 .f32) (L : List (View.Piece (Elt F) S2x128x512 .f32)) :
    oM.view.readCov (⟨rowR (1 - b), w'⟩ :: ⟨rowR b, w⟩ :: L) (rowR b).toLoadRect = w := (out_pass b _ _).trans (out_hit b _ _)

end Cert.KernelIdeal.Talk

end
-- ==== Proof.KernelIdeal.Body.lean ====
/-
The run of the kernel's body on one device, from the state of the talk at its start to the result buffer in full.
-/
module

public import proofs.«01_k».proof.Proof.KernelIdeal.Steps
public import proofs.«01_k».proof.Proof.KernelIdeal.Chain
public import Idealize.ShloMosaic.Lib.Exec

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev pt (c : Dev nD) (b : Ref sig .tc) (f : b.ty.Contents (Elt F)) : sProp 𝕄 := (Memref.whole b).view.loc (c : Thread nD τ) ↦{fullShare} f

/-- A statement about each of the four copies. -/
abbrev four (Φ : Fin 4 → sProp 𝕄) : sProp 𝕄 := iprop(Φ 0 ∗ Φ 1 ∗ Φ 2 ∗ Φ 3)

theorem peer_0 (c : Dev nD) : peer 0 c = p1 c := rfl
theorem peer_1 (c : Dev nD) : peer 1 c = p1 c := rfl
theorem peer_2 (c : Dev nD) : peer 2 c = p2 c := rfl
theorem peer_3 (c : Dev nD) : peer 3 c = p2 c := rfl

/-- The invariants device `c` opens: its own nine cells', its partners' barrier cells', and the receive cells of its copies'. -/
def invs (X : Sent F) (K : GSem nD τ sig → ℕ) (c : Dev nD) : sProp 𝕄 :=
  iprop((cellInv ER (talkRd X) (K (barCell c)) (barCell c) ∗ cellInv ER (talkRd X) (K (barCell (p1 c))) (barCell (p1 c))
      ∗ cellInv ER (talkRd X) (K (barCell (p2 c))) (barCell (p2 c)))
    ∗ four (fun j => cellInv ER (talkRd X) (K (sendCell j c)) (sendCell j c))
    ∗ four (fun j => cellInv ER (talkRd X) (K (recvCell j c)) (recvCell j c))
    ∗ four (fun j => cellInv ER (talkRd X) (K (recvCell j (peer j c))) (recvCell j (peer j c))))

instance invs_persistent (X : Sent F) (K : GSem nD τ sig → ℕ) (c : Dev nD) : BI.Persistent (invs X K c) := by unfold invs; infer_instance

/-- The tokens device `c` pays with: for its two signals, for its copies' sends, for its copies' landings. -/
def toks (c : Dev nD) : sProp 𝕄 :=
  iprop((dutyTok ER (barCell (p1 c)) 0 true ∗ dutyTok ER (barCell (p2 c)) 0 false)
    ∗ four (fun j => dutyTok ER (sendCell j c) 0 false) ∗ four (fun j => dutyTok ER (recvCell j (peer j c)) 0 false))

/-- The state of the talk on device `c` when its kernel starts, its cells open. -/
def opened (X : Sent F) (K : GSem nD τ sig → ℕ) (c : Dev nD) : sProp 𝕄 :=
  iprop(invs X K c ∗ toks c ∗ (atPos ER (barCell c) 0 ∅ 0 ∗ reached ER (barCell (p1 c)) 0 ∗ reached ER (barCell (p2 c)) 0)
    ∗ four (fun j => iprop(atPos ER (sendCell j c) 0 ∅ 0 ∗ reached ER (sendCell j c) 0))
    ∗ four (fun j => iprop(atPos ER (recvCell j c) 0 ∅ 0 ∗ reached ER (recvCell j c) 0)))

/-- The credits device `c` waits with: both units of its barrier cell, and its four landings. -/
def credits (c : Dev nD) : sProp 𝕄 :=
  iprop(cred (tallyAt (barCell c) () 2) ∗ four (fun j => cred (tallyAt (recvCell j c) () N)))

/-- Device `c`'s communication buffer, slot by slot, at some contents. -/
def slots (c : Dev nD) : sProp 𝕄 := four (F := F) (fun k => iprop(slotAny (F := F) k 0 c ∗ slotAny k 1 c))

/-- The five input buffers of device `c`. -/
def inputs (c : Dev nD) (I : Ins F) : sProp 𝕄 :=
  iprop(pt c cc0_stg0_0 I.x ∗ pt c cc0_stg1_0 I.wq ∗ pt c cc0_stg2_0 I.wo ∗ pt c cc0_stg3_0 I.k ∗ pt c cc0_stg4_0 I.v)

def talkPre (In : Dev nD → Ins F) (K : GSem nD τ sig → ℕ) (c : Dev nD) (W : Waits sig Unit) (o : (cc0_stg5_0 : Ref sig .tc).ty.Contents (Elt F)) : sProp 𝕄 :=
  iprop(opened (sentOf In) K c ∗ credits c ∗ levAts L lv ∗ slots c ∗ inputs c (In c) ∗ pt c cc0_stg5_0 o ∗ owes (c : Thread nD τ) (O₀ c) W)

/-- Every counter back at zero, the communication buffer back, the inputs as they were, the result in full, nothing owed. -/
def talkPost (In : Dev nD → Ins F) (c : Dev nD) : sProp 𝕄 :=
  iprop((semVal (barCell c) 0 ∗ four (fun j => semVal (sendCell j c) 0) ∗ four (fun j => semVal (recvCell j c) 0)) ∗ slots c
    ∗ inputs c (In c) ∗ pt c cc0_stg5_0 (outOf In c) ∗ ∃ W, owes (c : Thread nD τ) (0 : CellTallies nD τ sig Unit) W)

theorem talkRun (In : Dev nD → Ins F) (K : GSem nD τ sig → ℕ) (c : Dev nD) (W : Waits sig Unit) (o) (Kt : PUnit → sProp 𝕄) :
    iprop(talkPre In K c W o ∗ (talkPost In c -∗ Kt ⟨⟩))
     ⊢ wp frame (wpE (defs₀ (F := F)) 𝒱₀ (c : Thread nD τ) none) Set.univ (cc0_body xM (Memref.isWhole_whole _) qM (Memref.isWhole_whole _)
       woM (Memref.isWhole_whole _) kM (Memref.isWhole_whole _) vM (Memref.isWhole_whole _) oM (Memref.isWhole_whole _) cM (Memref.isWhole_whole _) cc0_scratch1 cc0_scratch2) Kt := by
  simp only [cc0_body_eq_skeleton]; unfold cc0_body_skel
  simp only [k0_part1_eq_skeleton, k0_part1_skel, semSignalWord, semWaitWord, Prog.lift, Prog.bind_op, Prog.bind_ret, Prog.pure_eq_ret, wp_deviceId, dev1_eq, dev2_eq]
  unfold talkPre opened invs toks credits slots inputs four
  simp only [peer_0, peer_1, peer_2, peer_3]
  iintro ⟨⟨⟨⟨⟨#IB, #IB1, #IB2⟩, ⟨#IS0, #IS1, #IS2, #IS3⟩, ⟨#IR0, #IR1, #IR2, #IR3⟩, ⟨#IP0, #IP1, #IP2, #IP3⟩⟩,
      ⟨⟨TB1, TB2⟩, ⟨TS0, TS1, TS2, TS3⟩, ⟨TR0, TR1, TR2, TR3⟩⟩,
      ⟨AB, #RB1, #RB2⟩, ⟨⟨AS0, #RS0⟩, ⟨AS1, #RS1⟩, ⟨AS2, #RS2⟩, ⟨AS3, #RS3⟩⟩,
      ⟨⟨AR0, #RR0⟩, ⟨AR1, #RR1⟩, ⟨AR2, #RR2⟩, ⟨AR3, #RR3⟩⟩⟩,
      ⟨CB, CR0, CR1, CR2, CR3⟩, #Hlev,
      ⟨⟨S00, S01⟩, ⟨S10, S11⟩, ⟨S20, S21⟩, ⟨S30, S31⟩⟩, ⟨Hx, Hq, Hwo, Hk, Hv⟩, Ho, HO⟩, Hpost⟩
  iapply (wp_signal1 (sentOf In) c (K (barCell (p1 c))) rfl) $$ [HO TB1 S10 S11]
  · isplitr; · iexact IB1
    isplitl [HO]; · iexact HO
    isplitl [TB1]; · iexact TB1
    isplitl [S10 S11]
    · isplitl [S10] <;> iassumption
    isplitl; · isplitr <;> iassumption
    iexact RB1
  iintro HO
  iapply (wp_signal2 (sentOf In) c (K (barCell (p2 c))) rfl) $$ [HO TB2 S30 S31]
  · isplitr; · iexact IB2
    isplitl [HO]; · iexact HO
    isplitl [TB2]; · iexact TB2
    isplitl [S30 S31]
    · isplitl [S30] <;> iassumption
    isplitl; · isplitr <;> iassumption
    iexact RB2
  iintro HO
  icases (Entails.of_eq (show slotAny (F := F) 0 0 c = iprop(∃ f, (slotM 0 0).view.loc (c : Thread nD τ) ↦[(slotM 0 0).view.set]{fullShare} f) from rfl)) $$ S00 with ⟨%f00, S00⟩
  sl_exec
  iapply (wp_barrier (sentOf In) c (K (barCell c)) (wpE_semWait_eq 𝒱₀ (c : Thread nD τ) none Set.univ)) $$ [CB HO AB]
  · isplitr; · iexact IB
    isplitl [CB]; · iexact CB
    isplitl [HO]; · iexact HO
    isplitr; · iexact Hlev
    iexact AB
  unfold barPay1 barPay2
  iintro ⟨HO, ZB, ⟨⟨D30, D31⟩, #RP2, #RP3⟩, ⟨D10, D11⟩, #RP0, #RP1⟩
  sl_exec
  have h00 : cM.view.readAt (Elt F) (slotR 0 0).toLoadRect (talkRun.sl.S00_w1 In c f00) = sentOf In 0 c := by
    refine (stored_read 0 0 f00 _).trans ?_
    exact congrArg asSlot (part_row0 (ldX 0 (In c)) (ldQ (In c)) (ldO (In c)) (fun h => ldK 0 h (In c)) (fun h => ldV 0 h (In c)))
  iapply (wp_copy (sentOf In) c 0 0 1 0 (p1 c) rfl rfl rfl rfl rfl rfl rfl rfl (dev3_eq c) (K (sendCell 0 c)) (K (recvCell 0 (p1 c))) (O1 c) _ h00) $$ [S00 D10 HO TS0 TR0]
  · isplitr; · iexact IS0
    isplitr; · iexact IP0
    isplitl [S00]; · unfold slotPts; iexact S00
    isplitl [D10]; · iexact D10
    isplitl [HO]; · iexact HO
    isplitl [TS0]; · iexact TS0
    isplitr; · iexact RS0
    isplitl [TR0]; · iexact TR0
    iexact RP0
  iintro ⟨CS0, HO⟩
  icases (Entails.of_eq (show slotAny (F := F) 0 1 c = iprop(∃ f, (slotM 0 1).view.loc (c : Thread nD τ) ↦[(slotM 0 1).view.set]{fullShare} f) from rfl)) $$ S01 with ⟨%f01, S01⟩
  sl_exec
  have h01 : cM.view.readAt (Elt F) (slotR 0 1).toLoadRect (talkRun.sl.S01_w1 In c f01) = sentOf In 1 c := by
    refine (stored_read 0 1 f01 _).trans ?_
    exact congrArg asSlot (part_row1 (ldX 1 (In c)) (ldQ (In c)) (ldO (In c)) (fun h => ldK 1 h (In c)) (fun h => ldV 1 h (In c)))
  iapply (wp_copy (sentOf In) c 1 0 1 1 (p1 c) rfl rfl rfl rfl rfl rfl rfl rfl (dev4_eq c) (K (sendCell 1 c)) (K (recvCell 1 (p1 c))) (O2 c) _ h01) $$ [S01 D11 HO TS1 TR1]
  · isplitr; · iexact IS1
    isplitr; · iexact IP1
    isplitl [S01]; · unfold slotPts; iexact S01
    isplitl [D11]; · iexact D11
    isplitl [HO]; · iexact HO
    isplitl [TS1]; · iexact TS1
    isplitr; · iexact RS1
    isplitl [TR1]; · iexact TR1
    iexact RP1
  iintro ⟨CS1, HO⟩
  iapply (wp_landed (sentOf In) c 0 1 0 (p1 c) rfl rfl rfl (K (recvCell 0 c)) (mayWait_recv0 c) rfl) $$ [CR0 HO AR0]
  · isplitr; · iexact IR0
    isplitl [CR0]; · iexact CR0
    isplitl [HO]; · iexact HO
    isplitr; · iexact Hlev
    iexact AR0
  unfold slotAt slotPts
  iintro ⟨HO, ZR0, ⟨%g10, %e10, S10⟩⟩
  icases (Entails.of_eq (show slotAny (F := F) 2 0 c = iprop(∃ f, (slotM 2 0).view.loc (c : Thread nD τ) ↦[(slotM 2 0).view.set]{fullShare} f) from rfl)) $$ S20 with ⟨%f20, S20⟩
  rw [after_ret]
  sl_exec
  have e402 : talkRun.sl.v402 In c = asRow (part 0 (In c)) := (out_second 0 _ _ _).trans
    (congrArg asRow (part_row0 (ldX 0 (In c)) (ldQ (In c)) (ldO (In c)) (fun h => ldK 0 h (In c)) (fun h => ldV 0 h (In c))))
  have h20 : cM.view.readAt (Elt F) (slotR 2 0).toLoadRect (talkRun.sl.S20_w1 In c f20) = sentOf In 2 c := by
    refine (stored_read 2 0 f20 _).trans ?_
    exact congrArg (fun o => asSlot (addSlot o (sentA In 0 (p1 c)))) e402
  iapply (wp_copy (sentOf In) c 2 2 3 0 (p2 c) rfl rfl rfl rfl rfl rfl rfl rfl (dev5_eq c) (K (sendCell 2 c)) (K (recvCell 2 (p2 c))) (O3 c) _ h20) $$ [S20 D30 HO TS2 TR2]
  · isplitr; · iexact IS2
    isplitr; · iexact IP2
    isplitl [S20]; · unfold slotPts; iexact S20
    isplitl [D30]; · iexact D30
    isplitl [HO]; · iexact HO
    isplitl [TS2]; · iexact TS2
    isplitr; · iexact RS2
    isplitl [TR2]; · iexact TR2
    iexact RP2
  iintro ⟨CS2, HO⟩
  iapply (wp_landed (sentOf In) c 1 1 1 (p1 c) rfl rfl rfl (K (recvCell 1 c)) (mayWait_recv1 c) rfl) $$ [CR1 HO AR1]
  · isplitr; · iexact IR1
    isplitl [CR1]; · iexact CR1
    isplitl [HO]; · iexact HO
    isplitr; · iexact Hlev
    iexact AR1
  unfold slotAt slotPts
  iintro ⟨HO, ZR1, ⟨%g11, %e11, S11⟩⟩
  rw [after_ret]
  icases (Entails.of_eq (show slotAny (F := F) 2 1 c = iprop(∃ f, (slotM 2 1).view.loc (c : Thread nD τ) ↦[(slotM 2 1).view.set]{fullShare} f) from rfl)) $$ S21 with ⟨%f21, S21⟩
  sl_exec
  have e433 : talkRun.sl.v433 In c = asRow (part 1 (In c)) := (out_second 1 _ _ _).trans
    (congrArg asRow (part_row1 (ldX 1 (In c)) (ldQ (In c)) (ldO (In c)) (fun h => ldK 1 h (In c)) (fun h => ldV 1 h (In c))))
  have h21 : cM.view.readAt (Elt F) (slotR 2 1).toLoadRect (talkRun.sl.S21_w1 In c f21) = sentOf In 3 c := by
    refine (stored_read 2 1 f21 _).trans ?_
    exact congrArg (fun o => asSlot (addSlot o (sentA In 1 (p1 c)))) e433
  have hO3 : O3 c = (0 : CellTallies nD τ sig Unit) + tallyAt (recvCell 3 (p2 c)) () N := (zero_add _).symm
  rw [hO3]
  iapply (wp_copy (sentOf In) c 3 2 3 1 (p2 c) rfl rfl rfl rfl rfl rfl rfl rfl (dev6_eq c) (K (sendCell 3 c)) (K (recvCell 3 (p2 c))) 0 _ h21) $$ [S21 D31 HO TS3 TR3]
  · isplitr; · iexact IS3
    isplitr; · iexact IP3
    isplitl [S21]; · unfold slotPts; iexact S21
    isplitl [D31]; · iexact D31
    isplitl [HO]; · iexact HO
    isplitl [TS3]; · iexact TS3
    isplitr; · iexact RS3
    isplitl [TR3]; · iexact TR3
    iexact RP3
  iintro ⟨CS3, HO⟩
  sl_exec
  ihave S30 := (Entails.of_eq (paid_recv (sentOf In) c 2)) $$ AR2_pay1
  icases (Entails.of_eq (landed_eq (sentOf In) 2 3 0 (p2 c) c rfl rfl rfl)) $$ S30 with ⟨%g30, %e30, S30⟩
  sl_exec
  ihave S31 := (Entails.of_eq (paid_recv (sentOf In) c 3)) $$ AR3_pay1
  icases (Entails.of_eq (landed_eq (sentOf In) 3 3 1 (p2 c) c rfl rfl rfl)) $$ S31 with ⟨%g31, %e31, S31⟩
  sl_exec
  have e464 : talkRun.sl.v464 In c = asRow (sumA In 0 c) := (out_second 0 _ _ _).trans
    (congrArg (fun o => asRow (addSlot o (sentA In 0 (p1 c)))) e402)
  have e481 : talkRun.sl.v481 In c = asRow (sumA In 1 c) := (out_second 1 _ _ _).trans
    (congrArg (fun o => asRow (addSlot o (sentA In 1 (p1 c)))) e433)
  have d0 : k0_pay50 (talkRun.sl.v464 In c) (sentOf In 2 (p2 c)) = asRow (sumB In 0 c) :=
    congrArg (fun o => asRow (addSlot o (sentB In 0 (p2 c)))) e464
  have d1 : talkRun.sl.v489 In c = asRow (sumB In 1 c) :=
    congrArg (fun o => asRow (addSlot o (sentB In 1 (p2 c)))) e481
  have hout : ∀ rest, oM.view.writes (Elt F) o (⟨rowR 1, talkRun.sl.v489 In c⟩ :: ⟨rowR 0, k0_pay50 (talkRun.sl.v464 In c) (sentOf In 2 (p2 c))⟩ :: rest) = outOf In c := by
    intro rest
    rw [d0, d1]
    exact out_written o _ _ rest
  imod (close (sentOf In) (K (recvCell 2 c)) (recvCell 2 c)) $$ [AR2] with ZR2
  · isplitr; · iexact IR2
    iexact AR2
  imod (close (sentOf In) (K (recvCell 3 c)) (recvCell 3 c)) $$ [AR3] with ZR3
  · isplitr; · iexact IR3
    iexact AR3
  imod (close (sentOf In) (K (sendCell 0 c)) (sendCell 0 c)) $$ [AS0] with ZS0
  · isplitr; · iexact IS0
    iexact AS0
  imod (close (sentOf In) (K (sendCell 1 c)) (sendCell 1 c)) $$ [AS1] with ZS1
  · isplitr; · iexact IS1
    iexact AS1
  imod (close (sentOf In) (K (sendCell 2 c)) (sendCell 2 c)) $$ [AS2] with ZS2
  · isplitr; · iexact IS2
    iexact AS2
  imod (close (sentOf In) (K (sendCell 3 c)) (sendCell 3 c)) $$ [AS3] with ZS3
  · isplitr; · iexact IS3
    iexact AS3
  ihave P0 := (Entails.of_eq ((paid_send (sentOf In) c 0).trans (show sentPay 0 c = slotAny (F := F) 0 0 c from rfl))) $$ AS0_pay1
  ihave P1 := (Entails.of_eq ((paid_send (sentOf In) c 1).trans (show sentPay 1 c = slotAny (F := F) 0 1 c from rfl))) $$ AS1_pay1
  ihave P2 := (Entails.of_eq ((paid_send (sentOf In) c 2).trans (show sentPay 2 c = slotAny (F := F) 2 0 c from rfl))) $$ AS2_pay1
  ihave P3 := (Entails.of_eq ((paid_send (sentOf In) c 3).trans (show sentPay 3 c = slotAny (F := F) 2 1 c from rfl))) $$ AS3_pay1
  rw [wp_ret]
  imodintro
  iapply Hpost
  unfold talkPost slots inputs four
  isplitl [ZB ZS0 ZS1 ZS2 ZS3 ZR0 ZR1 ZR2 ZR3]
  · isplitl [ZB]; · iexact ZB
    isplitl [ZS0 ZS1 ZS2 ZS3]
    · isplitl [ZS0]; · iexact ZS0
      isplitl [ZS1]; · iexact ZS1
      isplitl [ZS2] <;> iassumption
    isplitl [ZR0]; · iexact ZR0
    isplitl [ZR1]; · iexact ZR1
    isplitl [ZR2] <;> iassumption
  isplitl [P0 P1 S10 S11 P2 P3 S30 S31]
  · isplitl [P0 P1]
    · isplitl [P0]; · iexact P0
      iexact P1
    isplitl [S10 S11]
    · isplitl [S10]
      · unfold slotAny slotPts; iexists g10; iexact S10
      · unfold slotAny slotPts; iexists g11; iexact S11
    isplitl [P2 P3]
    · isplitl [P2]; · iexact P2
      iexact P3
    isplitl [S30]
    · unfold slotAny slotPts; iexists g30; iexact S30
    · unfold slotAny slotPts; iexists g31; iexact S31
  isplitl [Hx Hq Hwo Hk Hv]
  · isplitl [Hx]; · iexact Hx
    isplitl [Hq]; · iexact Hq
    isplitl [Hwo]; · iexact Hwo
    isplitl [Hk] <;> iassumption
  isplitl [Ho]
  · iapply (Entails.of_eq (show iprop((Memref.whole cc0_stg5_0).view.loc (c : Thread nD τ) ↦{fullShare} (Memref.whole cc0_stg5_0).view.writes (Elt F) o
        (⟨Rect.unit ![1, 0, 0] S1x128x512.size inb_S2x128x512_S1x128x512_1_0_0, talkRun.sl.v489 In c⟩ :: talkRun.sl.Ho_5 In c)) = pt c cc0_stg5_0 (outOf In c) from
      congrArg (pt (F := F) c cc0_stg5_0) (hout _))) $$ Ho
  iexists _
  iexact HO

end Cert.KernelIdeal.Talk

end
-- ==== Proof.KernelIdeal.Slots.lean ====
/-
The communication buffer whole is its eight slots, and the eight slots make it whole again.
-/
module

public import proofs.«01_k».proof.Proof.KernelIdeal.Body
public import Idealize.ShloMosaic.Lib.Ring

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The elements of slot `kb`. -/
abbrev slotSet (kb : Fin 4 × Fin 2) : Finset S4x2x128x512.Idx := (slotR kb.1 kb.2).set

theorem slotM_set (k : Fin 4) (b : Fin 2) : (slotM k b).view.set = slotSet (k, b) := by
  simp only [slotM, Memref.view_squeeze, View.set_reshape]; exact View.set_slice_whole _ _

theorem mem_slotSet (kb : Fin 4 × Fin 2) (i : S4x2x128x512.Idx) : i ∈ slotSet kb ↔ (i 0).val = kb.1.val ∧ (i 1).val = kb.2.val := by
  refine Rect.mem_set_unit.trans ⟨fun h => ?_, fun h a => ?_⟩
  · have h0 : kb.1.val ≤ (i 0).val ∧ (i 0).val < kb.1.val + 1 := h 0
    have h1 : kb.2.val ≤ (i 1).val ∧ (i 1).val < kb.2.val + 1 := h 1
    omega
  · match a with
    | ⟨0, _⟩ => exact (show kb.1.val ≤ (i 0).val ∧ (i 0).val < kb.1.val + 1 by omega)
    | ⟨1, _⟩ => exact (show kb.2.val ≤ (i 1).val ∧ (i 1).val < kb.2.val + 1 by omega)
    | ⟨2, _⟩ => exact (show 0 ≤ (i 2).val ∧ (i 2).val < 0 + 128 from ⟨Nat.zero_le _, by rw [Nat.zero_add]; exact (i 2).isLt⟩)
    | ⟨3, _⟩ => exact (show 0 ≤ (i 3).val ∧ (i 3).val < 0 + 512 from ⟨Nat.zero_le _, by rw [Nat.zero_add]; exact (i 3).isLt⟩)

theorem slotSet_disjoint (kb kb' : Fin 4 × Fin 2) (h : kb ≠ kb') : Disjoint (slotSet kb) (slotSet kb') := by
  rw [Finset.disjoint_left]
  intro i hi hi'
  rw [mem_slotSet] at hi hi'
  exact h (Prod.ext (Fin.ext (hi.1.symm.trans hi'.1)) (Fin.ext (hi.2.symm.trans hi'.2)))

theorem slotSet_cover : Finset.univ.biUnion slotSet = Finset.univ := by
  ext i
  simp only [Finset.mem_biUnion, Finset.mem_univ, true_and, iff_true]
  exact ⟨(i 0, i 1), (mem_slotSet _ i).mpr ⟨rfl, rfl⟩⟩

omit [FloatOps F] in
theorem bigSep_slots (Φ : Fin 4 × Fin 2 → sProp 𝕄) :
    bigSep Finset.univ Φ = four (fun k => iprop(Φ (k, 0) ∗ Φ (k, 1))) := by
  rw [bigSep_univ_prod, bigSep_univ_eq_bigSepL [(0 : Fin 4), 1, 2, 3] (by decide) (by decide)]
  simp only [bigSepL_cons_cons, bigSepL_singleton, BI.bigSep_fin_two]
  rfl

omit [FloatOps F] in
theorem slotAny_eq (k : Fin 4) (b : Fin 2) (c : Dev nD) :
    slotAny k b c = (iprop(∃ f, (c : Thread nD τ).loc cc0_scratch0 ↦[slotSet (k, b)]{fullShare} f) : sProp 𝕄) := by
  unfold slotAny slotPts; rw [slotM_set]

omit [FloatOps F] in
theorem slots_eq (c : Dev nD) :
    slots c = (bigSep Finset.univ fun kb => iprop(∃ f, (c : Thread nD τ).loc cc0_scratch0 ↦[slotSet kb]{fullShare} f) : sProp 𝕄) := by
  rw [bigSep_slots]; unfold slots; simp only [slotAny_eq]

omit [FloatOps F] in
/-- The buffer at some contents gives its slots, each at some contents, -/
theorem slots_split (c : Dev nD) : (iprop(∃ f, (c : Thread nD τ).loc cc0_scratch0 ↦{fullShare} f) : sProp 𝕄) ⊢ slots c := by
  rw [slots_eq]
  have hk (f) (kb : Fin 4 × Fin 2) : iprop((c : Thread nD τ).loc cc0_scratch0 ↦[slotSet kb]{fullShare} f)
      ⊢ (iprop(∃ f, (c : Thread nD τ).loc cc0_scratch0 ↦[slotSet kb]{fullShare} f) : sProp 𝕄) := by iintro H; iexists f; iexact H
  iintro ⟨%f, H⟩
  iapply (show iprop((c : Thread nD τ).loc cc0_scratch0 ↦{fullShare} f)
      ⊢ (bigSep Finset.univ fun kb => iprop(∃ f, (c : Thread nD τ).loc cc0_scratch0 ↦[slotSet kb]{fullShare} f) : sProp 𝕄) from
    (Entails.of_eq (Ring.pointsTo_sub_blocks (ℓ := (c : Thread nD τ).loc cc0_scratch0) slotSet slotSet_disjoint Finset.univ slotSet_cover f)).trans
      (BI.bigSep_mono fun kb _ => hk f kb)) $$ H

/-- and they give it back. -/
theorem slots_join (c : Dev nD) : slots c ⊢ (iprop(∃ f, (c : Thread nD τ).loc cc0_scratch0 ↦{fullShare} f) : sProp 𝕄) := by
  rw [slots_eq]
  exact Ring.pointsTo_sub_blocks_join_exists (ℓ := (c : Thread nD τ).loc cc0_scratch0) slotSet slotSet_disjoint Finset.univ slotSet_cover (Classical.arbitrary _)

end Cert.KernelIdeal.Talk

end
-- ==== Proof.KernelIdeal.Region.lean ====
/-
The kernel as one region of @main: what its windows hold before and after, its body's run in that shape,
and the record the launch takes.
-/
module

public import proofs.«01_k».proof.Proof.KernelIdeal.Slots
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit.Geometry

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## What the windows hold -/

/-- The blocks the kernel finds on each device: its arguments and the two slices the host made. -/
def ins (c : Dev nD) : Ins F where
  x := V1 m c main_arg0
  wq := V1 m c main_arg1
  wo := V1 m c main_arg4
  k := V1 m c main_v10
  v := V1 m c main_v16

/-- What the kernel leaves on device `c` beside what the host made. -/
def outs : Outs (F := F) := fun _ r c => Function.update (V1 m c) (Proc.devRef .tc main_v17) (outOf (ins m) c) (Proc.devRef .tc r)

theorem V2_out (c : Dev nD) : V2 m (outs m) c main_v17 = outOf (ins m) c := by
  unfold V2 outs; rw [Function.update_self]; exact Function.update_self ..

/-! ## The kernel's own semaphores -/

/-- The eight semaphores of the copies: four that count sends, four that count landings. -/
def osem : Fin 8 → SemLoc sig := fun k => if h : k.val < 4 then .dma (sendS ⟨k.val, h⟩) else .dma (recvS ⟨k.val - 4, by omega⟩)

theorem ownSemFacts : Pipeline.OwnSemFacts spec0 osem := by decide

omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

omit [FloatOps F] in
theorem ownSems_eq (c : Dev nD) : (Pipeline.ownSems0 osem c : sProp 𝕄)
    = iprop(semVal (sendCell 0 c) 0 ∗ semVal (sendCell 1 c) 0 ∗ semVal (sendCell 2 c) 0 ∗ semVal (sendCell 3 c) 0
      ∗ semVal (recvCell 0 c) 0 ∗ semVal (recvCell 1 c) 0 ∗ semVal (recvCell 2 c) 0 ∗ semVal (recvCell 3 c) 0) :=
  bigSep_fin8 (fun k : Fin 8 => (semVal ((c : Thread nD τ), osem k) 0 : sProp 𝕄))

/-! ## What the launch hands the kernel, and what the kernel keeps -/

/-- The state of the talk before the copies' cells are opened. -/
def ghost (K : GSem nD τ sig → ℕ) (c : Dev nD) : sProp 𝕄 :=
  iprop(invs (sentOf (ins m)) K c ∗ toks c ∗ (atPos ER (barCell c) 0 ∅ 0 ∗ reached ER (barCell (p1 c)) 0 ∗ reached ER (barCell (p2 c)) 0)
    ∗ four (fun j => openTok ER (sendCell j c)) ∗ four (fun j => openTok ER (recvCell j c)))

def Tk (c : Dev nD) : sProp 𝕄 := iprop((∃ K, ghost m K c) ∗ credits c)
def Xk (c : Dev nD) : sProp 𝕄 := iprop((∃ K, opened (sentOf (ins m)) K c) ∗ credits c ∗ levAts L lv)
def Yk (c : Dev nD) : sProp 𝕄 := semVal (barCell c) 0

/-- One of the copies' cells opened: its counter goes in, its position comes out. -/
theorem open_one (K : GSem nD τ sig → ℕ) (g : GSem nD τ sig) :
    iprop(cellInv ER (talkRd (sentOf (ins m))) (K g) g ∗ openTok ER g ∗ semVal g 0) ⊢ (|={Set.univ}=> iprop(atPos ER g 0 ∅ 0 ∗ reached ER g 0) : sProp 𝕄) := by
  iintro ⟨#I, Ho, Hs⟩
  imod (Rounds.cell_open ER (talkRd (sentOf (ins m))) (g := g) (Set.mem_univ (K g))) $$ [Ho Hs] with ⟨Ha, #Hr⟩
  · isplitr; · iexact I
    isplitl [Ho] <;> iassumption
  imodintro
  isplitl; · iexact Ha
  iexact Hr

theorem hopen (c : Dev nD) : iprop(Tk m c ∗ Pipeline.ownSems0 osem c ∗ levAts L lv) ⊢ (|={Set.univ}=> Xk m c : sProp 𝕄) := by
  rw [ownSems_eq]
  unfold Tk Xk
  iintro ⟨⟨⟨%K, Hg⟩, HC⟩, ⟨Z0, Z1, Z2, Z3, Y0, Y1, Y2, Y3⟩, #Hlev⟩
  unfold ghost invs four
  icases Hg with ⟨⟨HIB, ⟨#IS0, #IS1, #IS2, #IS3⟩, ⟨#IR0, #IR1, #IR2, #IR3⟩, HIP⟩, HT, HA, ⟨S0, S1, S2, S3⟩, ⟨R0, R1, R2, R3⟩⟩
  imod (open_one m K (sendCell 0 c)) $$ [S0 Z0] with A0
  · isplitr; · iexact IS0
    isplitl [S0] <;> iassumption
  imod (open_one m K (sendCell 1 c)) $$ [S1 Z1] with A1
  · isplitr; · iexact IS1
    isplitl [S1] <;> iassumption
  imod (open_one m K (sendCell 2 c)) $$ [S2 Z2] with A2
  · isplitr; · iexact IS2
    isplitl [S2] <;> iassumption
  imod (open_one m K (sendCell 3 c)) $$ [S3 Z3] with A3
  · isplitr; · iexact IS3
    isplitl [S3] <;> iassumption
  imod (open_one m K (recvCell 0 c)) $$ [R0 Y0] with B0
  · isplitr; · iexact IR0
    isplitl [R0] <;> iassumption
  imod (open_one m K (recvCell 1 c)) $$ [R1 Y1] with B1
  · isplitr; · iexact IR1
    isplitl [R1] <;> iassumption
  imod (open_one m K (recvCell 2 c)) $$ [R2 Y2] with B2
  · isplitr; · iexact IR2
    isplitl [R2] <;> iassumption
  imod (open_one m K (recvCell 3 c)) $$ [R3 Y3] with B3
  · isplitr; · iexact IR3
    isplitl [R3] <;> iassumption
  imodintro
  isplitr [HC]
  · iexists K; unfold opened invs four
    isplitl [HIB HIP]
    · isplitl [HIB]; · iexact HIB
      isplitr
      · isplitr; · iexact IS0
        isplitr; · iexact IS1
        isplitr; · iexact IS2
        iexact IS3
      isplitr
      · isplitr; · iexact IR0
        isplitr; · iexact IR1
        isplitr; · iexact IR2
        iexact IR3
      iexact HIP
    isplitl [HT]; · iexact HT
    isplitl [HA]; · iexact HA
    isplitl [A0 A1 A2 A3]
    · isplitl [A0]; · iexact A0
      isplitl [A1]; · iexact A1
      isplitl [A2] <;> iassumption
    isplitl [B0]; · iexact B0
    isplitl [B1]; · iexact B1
    isplitl [B2] <;> iassumption
  isplitl [HC]; · iexact HC
  iexact Hlev

/-! ## The pipeline's data -/

/-- The scratch buffer at some contents. -/
abbrev scr (c : Dev nD) : sProp 𝕄 := iprop(∃ f, (c : Thread nD τ).loc cc0_scratch0 ↦{fullShare} f)

def dat0 (c : Dev nD) : Dat τ (Elt F) Unit ℕ UU ℕ cfg0 c where
  A w := V1 m c (Proc.devRef .tc (Pipeline.arrRef spec0 w))
  after w _ := match w with
    | ⟨0, _⟩ => (ins m c).x
    | ⟨1, _⟩ => (ins m c).wq
    | ⟨2, _⟩ => (ins m c).wo
    | ⟨3, _⟩ => (ins m c).k
    | ⟨4, _⟩ => (ins m c).v
    | ⟨5, _⟩ => outOf (ins m) c
  Φ t := if t.val = 0 then iprop(Xk m c ∗ scr c ∗ ∃ r, prngReg c r) else iprop(Yk c ∗ Pipeline.ownSems0 osem c ∗ scr c ∗ ∃ r, prngReg c r)
  q _ := fullShare
  owed t := if t.val = 0 then O₀ c else 0

abbrev pdats (p : Fin 1) (c : Dev nD) : Dat τ (Elt F) Unit ℕ UU ℕ (cfgs p) c := dat0 m c

theorem owed_zero (c : Dev nD) : (pdats m 0 c).owed 0 = O₀ c := by
  show (if ((0 : Fin (cfg0.N + 1)).val = 0) then O₀ c else 0) = O₀ c; exact if_pos rfl
theorem owed_first (c : Dev nD) : (dat0 m c).owed t0_0.castSucc = O₀ c := by
  show (if (t0_0.castSucc : Fin (cfg0.N + 1)).val = 0 then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]

omit [FloatOps F] in
theorem owesAt_in (c : Dev nD) (dat : Dat τ (Elt F) Unit ℕ UU ℕ cfg0 c) (t : Fin (cfg0.N + 1)) (O : CellTallies nD τ sig Unit)
    (h0 : dat.owed t = O) (hr : dat.recorded t = Set.univ) (W : Waits sig Unit) : (owes (c : Thread nD τ) O W : sProp 𝕄) ⊢ dat.owesAt () t := by
  unfold Dat.owesAt Pipeline.owesWithin Dat.bound; rw [h0, hr]
  iintro HO; iexists W; isplitr; · ipureintro; exact fun _ _ => Or.inl trivial
  iexact HO
omit [FloatOps F] in
theorem owesAt_out (c : Dev nD) (dat : Dat τ (Elt F) Unit ℕ UU ℕ cfg0 c) (t : Fin (cfg0.N + 1)) (O : CellTallies nD τ sig Unit)
    (h0 : dat.owed t = O) : dat.owesAt () t ⊢ (iprop(∃ W, owes (c : Thread nD τ) O W) : sProp 𝕄) := by
  unfold Dat.owesAt Pipeline.owesWithin; rw [h0]
  iintro ⟨%W, -, HO⟩; iexists W; iexact HO

omit [FloatOps F] in
theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-- A staging buffer held whole at `X`. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

/-- The one block of a window that is its whole array is the array, so the body finds the arrays. -/
theorem before_0 (c : Dev nD) (d) : (dat0 m c).before (0 : Fin 6) t0_0 d = (ins m c).x := by
  unfold Dat.before; rw [if_pos (fetch0_0 t0_0)]; funext j
  exact congrArg (V1 m c main_arg0) (funext fun a => Fin.ext (Pipeline.Window.rect_emb_val_of_index_zero win0_0 t0_0 a rfl j))
theorem before_1 (c : Dev nD) (d) : (dat0 m c).before (1 : Fin 6) t0_0 d = (ins m c).wq := by
  unfold Dat.before; rw [if_pos (fetch0_1 t0_0)]; funext j
  exact congrArg (V1 m c main_arg1) (funext fun a => Fin.ext (Pipeline.Window.rect_emb_val_of_index_zero win0_1 t0_0 a rfl j))
theorem before_2 (c : Dev nD) (d) : (dat0 m c).before (2 : Fin 6) t0_0 d = (ins m c).wo := by
  unfold Dat.before; rw [if_pos (fetch0_2 t0_0)]; funext j
  exact congrArg (V1 m c main_arg4) (funext fun a => Fin.ext (Pipeline.Window.rect_emb_val_of_index_zero win0_2 t0_0 a rfl j))
theorem before_3 (c : Dev nD) (d) : (dat0 m c).before (3 : Fin 6) t0_0 d = (ins m c).k := by
  unfold Dat.before; rw [if_pos (fetch0_3 t0_0)]; funext j
  exact congrArg (V1 m c main_v10) (funext fun a => Fin.ext (Pipeline.Window.rect_emb_val_of_index_zero win0_3 t0_0 a rfl j))
theorem before_4 (c : Dev nD) (d) : (dat0 m c).before (4 : Fin 6) t0_0 d = (ins m c).v := by
  unfold Dat.before; rw [if_pos (fetch0_4 t0_0)]; funext j
  exact congrArg (V1 m c main_v16) (funext fun a => Fin.ext (Pipeline.Window.rect_emb_val_of_index_zero win0_4 t0_0 a rfl j))

/-- The result array ends at what the body left in its staging buffer. -/
theorem arr_out (c : Dev nD) : (dat0 m c).arrAt (5 : Fin 6) cfg0.N = outOf (ins m) c := by
  funext i
  exact (dat0 m c).arrAt_emb_eq_after_last (5 : Fin 6) t0_0 (by decide +kernel) i

/-! ## The body's run in the region's shape -/

def bodyPre (c : Dev nD) : sProp 𝕄 :=
  iprop((Xk m c ∗ scr c ∗ ∃ r, prngReg c r) ∗ (dat0 m c).owesAt () t0_0.castSucc
    ∗ (∃ d, stg c cc0_stg0_0 ((dat0 m c).before (0 : Fin 6) t0_0 d)) ∗ (∃ d, stg c cc0_stg1_0 ((dat0 m c).before (1 : Fin 6) t0_0 d))
    ∗ (∃ d, stg c cc0_stg2_0 ((dat0 m c).before (2 : Fin 6) t0_0 d)) ∗ (∃ d, stg c cc0_stg3_0 ((dat0 m c).before (3 : Fin 6) t0_0 d))
    ∗ (∃ d, stg c cc0_stg4_0 ((dat0 m c).before (4 : Fin 6) t0_0 d)) ∗ (∃ d, stg c cc0_stg5_0 ((dat0 m c).before (5 : Fin 6) t0_0 d)))
def bodyPost (c : Dev nD) : sProp 𝕄 :=
  iprop((Yk c ∗ Pipeline.ownSems0 osem c ∗ scr c ∗ ∃ r, prngReg c r) ∗ (dat0 m c).owesAt () t0_0.succ
    ∗ stg c cc0_stg0_0 (ins m c).x ∗ stg c cc0_stg1_0 (ins m c).wq ∗ stg c cc0_stg2_0 (ins m c).wo ∗ stg c cc0_stg3_0 (ins m c).k
    ∗ stg c cc0_stg4_0 (ins m c).v ∗ stg c cc0_stg5_0 (outOf (ins m) c))

omit [FloatOps F] in
theorem stg_in (c : Dev nD) (b : Ref sig .tc) (X : b.ty.Contents (Elt F)) : stg c b X ⊢ (pt c b X : sProp 𝕄) := by
  iintro ⟨%f, %h, H⟩; subst h; iexact H
omit [FloatOps F] in
theorem stg_out (c : Dev nD) (b : Ref sig .tc) (X : b.ty.Contents (Elt F)) : (pt c b X : sProp 𝕄) ⊢ stg c b X := by
  iintro H; iexists X; isplitr; · ipureintro; rfl
  iexact H

theorem body_run (c : Dev nD) :
    bodyPre m c ⊢ wp frame (wpE (defs₀ (F := F)) 𝒱₀ (c : Thread nD τ) none) Set.univ (cc0_body xM (Memref.isWhole_whole _) qM (Memref.isWhole_whole _)
       woM (Memref.isWhole_whole _) kM (Memref.isWhole_whole _) vM (Memref.isWhole_whole _) oM (Memref.isWhole_whole _) cM (Memref.isWhole_whole _) cc0_scratch1 cc0_scratch2)
      (fun _ => bodyPost m c) := by
  unfold bodyPre Xk
  simp only [before_0, before_1, before_2, before_3, before_4]
  iintro ⟨⟨⟨⟨%K, HK⟩, HC, #Hlev⟩, Hs, Hp⟩, HO, ⟨%_, H0⟩, ⟨%_, H1⟩, ⟨%_, H2⟩, ⟨%_, H3⟩, ⟨%_, H4⟩, ⟨%d, H5⟩⟩
  ihave HO' := (owesAt_out c (dat0 m c) _ (O₀ c) (owed_first m c)) $$ HO
  icases HO' with ⟨%W, HO⟩
  iapply (talkRun (ins m) K c W ((dat0 m c).before (5 : Fin 6) t0_0 d) (fun _ => bodyPost m c))
  isplitr [Hp]
  · unfold talkPre inputs
    isplitl [HK]; · iexact HK
    isplitl [HC]; · iexact HC
    isplitr; · iexact Hlev
    isplitl [Hs]; · iapply (slots_split c) $$ Hs
    isplitl [H0 H1 H2 H3 H4]
    · isplitl [H0]; · iapply (stg_in c _ _) $$ H0
      isplitl [H1]; · iapply (stg_in c _ _) $$ H1
      isplitl [H2]; · iapply (stg_in c _ _) $$ H2
      isplitl [H3]; · iapply (stg_in c _ _) $$ H3
      iapply (stg_in c _ _) $$ H4
    isplitl [H5]; · iapply (stg_in c _ _) $$ H5
    iexact HO
  unfold talkPost inputs four bodyPost Yk
  rw [ownSems_eq]
  iintro ⟨⟨ZB, ⟨Z0, Z1, Z2, Z3⟩, ⟨Y0, Y1, Y2, Y3⟩⟩, Hs, ⟨H0, H1, H2, H3, H4⟩, H5, ⟨%W', HO⟩⟩
  isplitl [ZB Z0 Z1 Z2 Z3 Y0 Y1 Y2 Y3 Hs Hp]
  · isplitl [ZB]; · iexact ZB
    isplitl [Z0 Z1 Z2 Z3 Y0 Y1 Y2 Y3]
    · isplitl [Z0]; · iexact Z0
      isplitl [Z1]; · iexact Z1
      isplitl [Z2]; · iexact Z2
      isplitl [Z3]; · iexact Z3
      isplitl [Y0]; · iexact Y0
      isplitl [Y1]; · iexact Y1
      isplitl [Y2] <;> iassumption
    isplitl [Hs]; · iapply (slots_join c) $$ Hs
    iexact Hp
  isplitl [HO]; · iapply (owesAt_in c (dat0 m c) t0_0.succ 0 (owed_last m c) rfl W') $$ HO
  isplitl [H0]; · iapply (stg_out c _ _) $$ H0
  isplitl [H1]; · iapply (stg_out c _ _) $$ H1
  isplitl [H2]; · iapply (stg_out c _ _) $$ H2
  isplitl [H3]; · iapply (stg_out c _ _) $$ H3
  isplitl [H4]; · iapply (stg_out c _ _) $$ H4
  iapply (stg_out c _ _) $$ H5

set_option maxRecDepth 8000 in
theorem body_obligation (c : Dev nD) : BodyObligation (dat0 m c) (defs₀ (F := F)) 𝒱₀ () Set.univ := fun t => by
  obtain rfl := fin_N0 t
  rw [bigSep_W, bigSep_W]
  simp only [owns_whole]
  exact body_run m c

end Cert.KernelIdeal.Talk

end
-- ==== Proof.KernelIdeal.Launch.lean ====
/-
The launch: every cell's record made before the devices start, each device handed its share, and the whole run.
-/
module

public import proofs.«01_k».proof.Proof.KernelIdeal.Region

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The region's record -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cut (c : Dev nD) (t : Fin (cfg0.N + 1)) (g : GSem nD τ sig) (i : Unit) (h : 0 < (dat0 m c).owed t g i) : i ∈ L g ∧ (0 : ℕ) < lv g i := by
  have e : (dat0 m c).owed t = if t.val = 0 then O₀ c else 0 := rfl
  rw [e] at h
  split at h
  · rcases O₀_pos h with ⟨j, d, rfl⟩ | ⟨d, rfl⟩
    · exact ⟨by rw [L_tc]; exact Finset.mem_singleton_self _, by rw [lv_recv]; split <;> decide⟩
    · exact ⟨by rw [L_tc]; exact Finset.mem_singleton_self _, by rw [lv_bar]; decide⟩
  · exact absurd h (Nat.lt_irrefl 0)

theorem stage_low : ∀ (w : Fin 6) (s : Fin (spec0 w).nbuf), lv ((((0 : Dev nD) : Thread nD τ)), .dma ((spec0 w).sem s)) () = 0 := by decide

/-- The buffers of @main that are no window's array. -/
abbrev off : Finset (DevRef τ sig) := Pipeline.ucRefs τ sig \ Pipeline.arrRefs spec0

theorem hin (c : Dev nD) : iprop(Pipeline.scopedRest spec0 c ∗ (∃ r, prngReg c r) ∗ StableHlo.held (c.tc : Thread nD τ) ∅ (V1 m c) ∗ Xk m c)
    ⊢ (dat0 m c).Φ 0 := by
  rw [show (dat0 m c).Φ 0 = iprop(Xk m c ∗ scr c ∗ ∃ r, prngReg c r) from rfl, scopedRest0_eq]
  iintro ⟨Hs, Hp, -, HX⟩
  isplitl [HX]; · iexact HX
  isplitl [Hs]; · iexact Hs
  iexact Hp

theorem hout (c : Dev nD) : (dat0 m c).Φ (Fin.last cfg0.N)
    ⊢ iprop(Pipeline.scopedRest spec0 c ∗ (∃ r, prngReg c r) ∗ StableHlo.held (c.tc : Thread nD τ) ∅ (V2 m (outs m) c) ∗ Pipeline.ownSems0 osem c ∗ Yk c) := by
  rw [show (dat0 m c).Φ (Fin.last _) = iprop(Yk c ∗ Pipeline.ownSems0 osem c ∗ scr c ∗ ∃ r, prngReg c r) from rfl, scopedRest0_eq]
  iintro ⟨HY, Ho, Hs, Hp⟩
  isplitl [Hs]; · iexact Hs
  isplitl [Hp]; · iexact Hp
  isplitr; · unfold StableHlo.held; rw [BI.bigSep_empty]; iempintro
  isplitl [Ho] <;> iassumption

theorem V2_off (c : Dev nD) (b : DevRef τ sig) (hb : b ∈ off \ ∅) : V2 m (outs m) c b = V1 m c b := by
  unfold V2
  refine Function.update_of_ne (fun e => ?_) _ _
  rw [Finset.sdiff_empty] at hb
  refine (Finset.mem_sdiff.mp hb).2 ?_
  rw [e]; decide

theorem arr_final (c : Dev nD) (w : Fin 6) : (dat0 m c).arrAt w cfg0.N = V2 m (outs m) c (Proc.devRef .tc (Pipeline.arrRef spec0 w)) := by
  match w with
  | 0 => exact ((dat0 m c).arrAt_in (0 : Fin 6) rfl _).trans (V2_of m (outs m) c main_arg0 (by decide)).symm
  | 1 => exact ((dat0 m c).arrAt_in (1 : Fin 6) rfl _).trans (V2_of m (outs m) c main_arg1 (by decide)).symm
  | 2 => exact ((dat0 m c).arrAt_in (2 : Fin 6) rfl _).trans (V2_of m (outs m) c main_arg4 (by decide)).symm
  | 3 => exact ((dat0 m c).arrAt_in (3 : Fin 6) rfl _).trans (V2_of m (outs m) c main_v10 (by decide)).symm
  | 4 => exact ((dat0 m c).arrAt_in (4 : Fin 6) rfl _).trans (V2_of m (outs m) c main_v16 (by decide)).symm
  | 5 => exact (arr_out m c).trans (V2_out m c).symm

set_option backward.isDefEq.respectTransparency.types false in
/-- The kernel's region: entered owing all of the talk, left owing nothing, its result array written. -/
def reg : Pipeline.RegionSeg (pcfgs (F := F)) adm (pdats m) () defs₀ 𝒱₀ L lv 0 :=
  Pipeline.RegionSeg.ofTalk (pcfgs (F := F)) adm (pdats m) () defs₀ 𝒱₀ L lv 0 osem ownSemFacts
    ∅ off (Finset.empty_subset _) kit rfl (fun c => (body_obligation m c).loose)
    (fun _ => 0) O₀ (fun c => (owed_zero m c).trans (zero_add _).symm) (owed_last m) (fun _ => rfl)
    (fun c w => by unfold Dat.share; split <;> rfl)
    (V1 m) (V2 m (outs m)) (V2_off m) (Tk m) Yk (Xk m) Yk (hopen m) (hin m) (hout m)
    (fun c => by iintro H; imodintro; iexact H)
    (fun _ => 0)
    ⟨fun c w s => by rw [L_tc]; exact Finset.mem_singleton_self _, fun c w s => le_of_eq (stage_low w s), fun c t g i h => cut m c t g i h⟩
    (fun _ => iprop(emp))
    (fun c w => rfl) (fun c w => arr_final m c w)

/-- What rides beside the host's operations up to the kernel, and after it. -/
def R0 (c : Dev nD) : sProp 𝕄 := iprop(Tk m c ∗ (∃ r, prngReg c r) ∗ ∃ W, owes (c : Thread nD τ) (O₀ c) W)
def R1 (c : Dev nD) : sProp 𝕄 := iprop(semVal (barCell c) 0 ∗ ∃ W, owes (c : Thread nD τ) (0 : CellTallies nD τ sig Unit) W)
def RR (j : Fin 2) (c : Dev nD) : sProp 𝕄 := match j with | 0 => R0 m c | 1 => R1 c

theorem arr_sub : Pipeline.arrRefs spec0 ⊆ Pipeline.ucRefs τ sig := Pipeline.arrRefs_sub_ucRefs spec0 (by decide)

theorem reg_pre (c : Dev nD) : iprop(StableHlo.held (c : Thread nD τ) (Pipeline.ucRefs τ sig) (V1 m c) ∗ R0 m c) ⊢ (reg m).pre c := by
  show _ ⊢ iprop(StableHlo.held (c.tc : Thread nD τ) (Pipeline.arrRefs spec0) (V1 m c) ∗ (∃ r, prngReg c r)
    ∗ (StableHlo.held (c.tc : Thread nD τ) off (V1 m c) ∗ emp) ∗ Tk m c ∗ ∃ Wd, owes (c : Thread nD τ) (0 + O₀ c) Wd)
  rw [StableHlo.held_sub_split (c : Thread nD τ) arr_sub, zero_add]
  unfold R0
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg_post (c : Dev nD) : (reg m).post c ⊢ iprop(StableHlo.held (c : Thread nD τ) (Pipeline.ucRefs τ sig) (V2 m (outs m) c) ∗ R1 c) := by
  show iprop(StableHlo.held (c.tc : Thread nD τ) (Pipeline.arrRefs spec0) (V2 m (outs m) c) ∗ (∃ r, prngReg c r)
    ∗ (StableHlo.held (c.tc : Thread nD τ) off (V2 m (outs m) c) ∗ emp) ∗ Yk c ∗ ∃ Wd, owes (c : Thread nD τ) (0 : CellTallies nD τ sig Unit) Wd) ⊢ _
  rw [StableHlo.held_sub_split (c : Thread nD τ) arr_sub (V2 m (outs m) c)]
  unfold R1 Yk
  iintro ⟨Ha, -, ⟨Hr, -⟩, Hb, HO⟩
  isplitl [Ha Hr]
  · isplitl [Ha] <;> iassumption
  isplitl [Hb] <;> iassumption

/-! ## The launch's cells and tokens -/

theorem osem_inj : Function.Injective osem := by decide
theorem osem_ne_bar : ∀ k : Fin 8, osem k ≠ .reg barS := by decide

def barEmb : Dev nD ↪ GSem nD τ sig := ⟨fun c => barCell c, fun _ _ h => congrArg (fun g : GSem nD τ sig => g.1.1) h⟩
def scEmb : Dev nD × Fin 8 ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev scCells : Finset (GSem nD τ sig) := Finset.univ.map scEmb

/-- The ten duties of a device's own cells: two on its barrier cell, one on each of its copies' cells. -/
abbrev tsem (k : Fin 10) : SemLoc sig := if h : k.val < 8 then osem ⟨k.val, h⟩ else .reg barS
abbrev tduty (k : Fin 10) : Bool := k.val = 8
theorem tk_inj : Function.Injective (fun k : Fin 10 => (tsem k, tduty k)) := by decide
def talkToks : Finset (GSem nD τ sig × ℕ × Bool) :=
  Finset.univ.map ⟨fun ck : Dev nD × Fin 10 => (((ck.1 : Thread nD τ), tsem ck.2), 0, tduty ck.2), fun _ _ h =>
    Prod.ext (congrArg (fun t : GSem nD τ sig × ℕ × Bool => t.1.1.1) h)
      (tk_inj (Prod.ext (congrArg (fun t : GSem nD τ sig × ℕ × Bool => t.1.2) h) (congrArg (fun t : GSem nD τ sig × ℕ × Bool => t.2.2) h)))⟩

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : barCell c ∈ (barCells ∪ scCells : Finset (GSem nD τ sig)) :=
  Finset.mem_union_left _ (Finset.mem_map_of_mem barEmb (Finset.mem_univ c))
theorem sc_mem (c : Dev nD) (k : Fin 8) : ((c : Thread nD τ), osem k) ∈ (barCells ∪ scCells : Finset (GSem nD τ sig)) :=
  Finset.mem_union_right _ (Finset.mem_map_of_mem scEmb (Finset.mem_univ (c, k)))
theorem send_mem (j : Fin 4) (c : Dev nD) : sendCell j c ∈ (barCells ∪ scCells : Finset (GSem nD τ sig)) := by
  have h := sc_mem c ⟨j.val, by omega⟩
  unfold osem at h; rw [dif_pos j.isLt] at h; exact h
theorem recv_mem (j : Fin 4) (c : Dev nD) : recvCell j c ∈ (barCells ∪ scCells : Finset (GSem nD τ sig)) := by
  have h := sc_mem c ⟨j.val + 4, by omega⟩
  unfold osem at h; rw [dif_neg (by dsimp only; omega)] at h; exact h

/-- The launch's element: the pipeline's part, and the talk's. -/
def u₀ : UU :=
  (initOf (Pipeline.cells cfgs cellOf_inj) (Pipeline.launchToks cfgs cellOf_inj), launchOf barCells scCells talkToks)

/-- A resource held by device 0 alone. -/
def atZero (X : sProp 𝕄) (c : Dev nD) : sProp 𝕄 := if c = 0 then X else iprop(emp)
omit [FloatOps F] in
theorem bigSep_atZero (X : sProp 𝕄) : bigSep Finset.univ (atZero X) = X := by
  rw [bigSep_univ_at _ (0 : Dev nD), bigSep_congr (s := Finset.univ.erase (0 : Dev nD)) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp

def G : Dev nD → sProp 𝕄 := atZero (BI.own (ER (launchOf barCells scCells talkToks)))

/-- What every device may consult: all the cells' invariants, every barrier cell at round 0. -/
def records (κ : GSem nD τ sig → ℕ) : sProp 𝕄 :=
  iprop((bigSep (barCells ∪ scCells) fun g => cellInv ER (talkRd (sentOf (ins m))) (κ g) g) ∗ bigSep barCells fun g => reached ER g 0)

instance records_persistent (κ : GSem nD τ sig → ℕ) : BI.Persistent (records m κ) := by unfold records; infer_instance

theorem inv_at (κ : GSem nD τ sig → ℕ) {g : GSem nD τ sig} (hg : g ∈ (barCells ∪ scCells : Finset (GSem nD τ sig))) :
    (bigSep (barCells ∪ scCells) fun g => (cellInv ER (talkRd (sentOf (ins m))) (κ g) g : sProp 𝕄)) ⊢ cellInv ER (talkRd (sentOf (ins m))) (κ g) g :=
  bigSep_elim hg

omit [FloatOps F] in
theorem reached_at (c : Dev nD) : (bigSep barCells fun g => (reached ER g 0 : sProp 𝕄)) ⊢ reached ER (barCell c) 0 :=
  bigSep_elim (Finset.mem_map_of_mem barEmb (Finset.mem_univ c))

/-- What device `c` alone holds: its barrier position, the rights to open its copies' cells, the tokens it pays with. -/
def linear (c : Dev nD) : sProp 𝕄 :=
  iprop(atPos ER (barCell c) 0 ∅ 0 ∗ (four (fun j => openTok ER (sendCell j c)) ∗ four (fun j => openTok ER (recvCell j c))) ∗ toks c)

theorem invs_at (κ : GSem nD τ sig → ℕ) (c : Dev nD) :
    (bigSep (barCells ∪ scCells) fun g => (cellInv ER (talkRd (sentOf (ins m))) (κ g) g : sProp 𝕄)) ⊢ invs (sentOf (ins m)) κ c := by
  unfold invs four
  iintro #HI
  isplitr
  · isplitr; · iapply (inv_at m κ (bar_mem c)); iexact HI
    isplitr; · iapply (inv_at m κ (bar_mem (p1 c))); iexact HI
    iapply (inv_at m κ (bar_mem (p2 c))); iexact HI
  isplitr
  · isplitr; · iapply (inv_at m κ (send_mem 0 c)); iexact HI
    isplitr; · iapply (inv_at m κ (send_mem 1 c)); iexact HI
    isplitr; · iapply (inv_at m κ (send_mem 2 c)); iexact HI
    iapply (inv_at m κ (send_mem 3 c)); iexact HI
  isplitr
  · isplitr; · iapply (inv_at m κ (recv_mem 0 c)); iexact HI
    isplitr; · iapply (inv_at m κ (recv_mem 1 c)); iexact HI
    isplitr; · iapply (inv_at m κ (recv_mem 2 c)); iexact HI
    iapply (inv_at m κ (recv_mem 3 c)); iexact HI
  isplitr; · iapply (inv_at m κ (recv_mem 0 (peer 0 c))); iexact HI
  isplitr; · iapply (inv_at m κ (recv_mem 1 (peer 1 c))); iexact HI
  isplitr; · iapply (inv_at m κ (recv_mem 2 (peer 2 c))); iexact HI
  iapply (inv_at m κ (recv_mem 3 (peer 3 c))); iexact HI

theorem ghost_intro (κ : GSem nD τ sig → ℕ) (c : Dev nD) : iprop(records m κ ∗ linear c) ⊢ iprop(∃ K, ghost m K c) := by
  unfold records linear ghost
  iintro ⟨⟨#HI, #HR⟩, HaB, ⟨HoS, HoV⟩, HT⟩
  iexists κ
  isplitr; · iapply (invs_at m κ c); iexact HI
  isplitl [HT]; · iexact HT
  isplitl [HaB]
  · isplitl [HaB]; · iexact HaB
    isplitr; · iapply (reached_at (F := F) (p1 c)); iexact HR
    iapply (reached_at (F := F) (p2 c)); iexact HR
  isplitl [HoS] <;> iassumption

/-- The tokens of device `c`'s own cells. -/
def ownToks (c : Dev nD) : sProp 𝕄 :=
  iprop(four (fun j => dutyTok ER (sendCell j c) 0 false) ∗ four (fun j => dutyTok ER (recvCell j c) 0 false)
    ∗ dutyTok ER (barCell c) 0 true ∗ dutyTok ER (barCell c) 0 false)

omit [FloatOps F] in
theorem toks_eq : bigSep talkToks (fun x => (dutyTok ER x.1 x.2.1 x.2.2 : sProp 𝕄)) ⊢ bigSep Finset.univ fun c : Dev nD => ownToks c := by
  unfold talkToks; rw [bigSep_map, bigSep_univ_prod]
  refine bigSep_mono fun c _ => ?_
  rw [bigSep_univ_eq_bigSepL [(0 : Fin 10), 1, 2, 3, 4, 5, 6, 7, 8, 9] (by decide) (by decide)]
  show iprop(dutyTok ER (sendCell 0 c) 0 false ∗ dutyTok ER (sendCell 1 c) 0 false ∗ dutyTok ER (sendCell 2 c) 0 false ∗ dutyTok ER (sendCell 3 c) 0 false
    ∗ dutyTok ER (recvCell 0 c) 0 false ∗ dutyTok ER (recvCell 1 c) 0 false ∗ dutyTok ER (recvCell 2 c) 0 false ∗ dutyTok ER (recvCell 3 c) 0 false
    ∗ dutyTok ER (barCell c) 0 true ∗ dutyTok ER (barCell c) 0 false) ⊢ ownToks c
  unfold ownToks four
  iintro ⟨S0, S1, S2, S3, R0, R1, R2, R3, B0, B1⟩
  isplitl [S0 S1 S2 S3]
  · isplitl [S0]; · iexact S0
    isplitl [S1]; · iexact S1
    isplitl [S2] <;> iassumption
  isplitl [R0 R1 R2 R3]
  · isplitl [R0]; · iexact R0
    isplitl [R1]; · iexact R1
    isplitl [R2] <;> iassumption
  isplitl [B0] <;> iassumption

omit [FloatOps F] in
/-- The barrier's and the landings' tokens, each handed to the partner that pays it. -/
theorem toks_around : (bigSep Finset.univ fun c : Dev nD => (ownToks c : sProp 𝕄)) ⊢ bigSep Finset.univ fun c : Dev nD => toks c := by
  have e1 (Φ : Dev nD → sProp 𝕄) : bigSep Finset.univ Φ = bigSep Finset.univ fun c => Φ (p1 c) := bigSep_univ_equiv flip1 Φ
  have e2 (Φ : Dev nD → sProp 𝕄) : bigSep Finset.univ Φ = bigSep Finset.univ fun c => Φ (p2 c) := bigSep_univ_equiv flip2 Φ
  unfold ownToks toks four
  simp only [bigSep_sep', peer_0, peer_1, peer_2, peer_3]
  rw [e1 fun c => dutyTok ER (barCell c) 0 true, e2 fun c => dutyTok ER (barCell c) 0 false,
    e1 fun c => dutyTok ER (recvCell 0 c) 0 false, e1 fun c => dutyTok ER (recvCell 1 c) 0 false,
    e2 fun c => dutyTok ER (recvCell 2 c) 0 false, e2 fun c => dutyTok ER (recvCell 3 c) 0 false]
  iintro ⟨HS, ⟨R0, R1, R2, R3⟩, B0, B1⟩
  isplitl [B0 B1]; · isplitl [B0] <;> iassumption
  isplitl [HS]; · iexact HS
  isplitl [R0]; · iexact R0
  isplitl [R1]; · iexact R1
  isplitl [R2] <;> iassumption

end Cert.KernelIdeal.Talk

end
-- ==== Proof.KernelIdeal.Run.lean ====
/-
The run of the whole program: the launch's credits and funds, the program's two segments, and what every final state holds.
-/
module

public import proofs.«01_k».proof.Proof.KernelIdeal.Launch

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The launch's credits -/

theorem recv_ne_bar (j : Fin 4) (c d : Dev nD) : recvCell j c ≠ barCell d := fun h => by
  have := congrArg Prod.snd h; cases this

theorem at_recv (j k : Fin 4) (d c : Dev nD) (n : ℕ) : (tallyAt (recvCell k d) () n : CellTallies nD τ sig Unit) (recvCell j c) () = if k = j ∧ d = c then n else 0 := by
  rw [tallyAt_apply]
  refine if_congr ⟨fun h => ?_, fun h => by rw [h.1, h.2]; exact ⟨rfl, rfl⟩⟩ rfl rfl
  have e := h.1
  exact ⟨(recvS_inj _ _ (SemLoc.dma.inj (congrArg Prod.snd e))).symm, (congrArg (fun g : GSem nD τ sig => g.1.1) e).symm⟩

theorem at_bar (d c : Dev nD) (n : ℕ) : (tallyAt (barCell d) () n : CellTallies nD τ sig Unit) (barCell c) () = if d = c then n else 0 := by
  rw [tallyAt_apply]
  refine if_congr ⟨fun h => ?_, fun h => by rw [h]; exact ⟨rfl, rfl⟩⟩ rfl rfl
  exact (congrArg (fun g : GSem nD τ sig => g.1.1) h.1).symm

theorem p1_iff (d c : Dev nD) : p1 d = c ↔ d = p1 c := ⟨fun h => by rw [← h, p1_p1], fun h => by rw [h, p1_p1]⟩
theorem p2_iff (d c : Dev nD) : p2 d = c ↔ d = p2 c := ⟨fun h => by rw [← h, p2_p2], fun h => by rw [h, p2_p2]⟩

theorem owed_recv (j : Fin 4) (d c : Dev nD) : O₀ d (recvCell j c) () = if d = peer j c then N else 0 := by
  unfold O₀ OB O0 O1 O2 O3
  simp only [Pi.add_apply, Finsupp.add_apply, at_recv, p1_iff, p2_iff, tallyAt_ne_cell (recv_ne_bar j c _), Finsupp.zero_apply, Nat.add_zero]
  match j with
  | 0 => simp [peer_0]; congr
  | 1 => simp [peer_1]; congr
  | 2 => simp [peer_2]; congr
  | 3 => simp [peer_3]; congr

theorem owed_bar (d c : Dev nD) : O₀ d (barCell c) () = (if d = p2 c then 1 else 0) + if d = p1 c then 1 else 0 := by
  unfold O₀ OB O0 O1 O2 O3
  simp only [Pi.add_apply, Finsupp.add_apply, at_bar, p1_iff, p2_iff, tallyAt_ne_cell (recv_ne_bar _ _ _).symm, Finsupp.zero_apply, Nat.add_zero, Nat.zero_add]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (p2 c) fun _ => 1, Finset.sum_ite_eq' Finset.univ (p1 c) fun _ => 1, if_pos (Finset.mem_univ _), if_pos (Finset.mem_univ _)]

theorem launch_recv (j : Fin 4) (c : Dev nD) :
    tallyOn (recvCell j c) (launchCredit (Pipeline.owing O₀) 0 (recvCell j c)) = (tallyAt (recvCell j c) () N : CellTallies nD τ sig Unit) := by
  unfold tallyAt; refine congrArg _ (Finsupp.ext fun u => ?_); cases u
  rw [Pipeline.launchCredit_owing, Finsupp.single_eq_same, Finset.sum_congr rfl fun d _ => owed_recv j d c, Finset.sum_ite_eq' Finset.univ (peer j c) fun _ => N,
    if_pos (Finset.mem_univ _)]

/-- The five cells a device waits at, as semaphores. -/
abbrev wsem (k : Fin 5) : SemLoc sig := if h : k.val < 4 then .dma (recvS ⟨k.val, h⟩) else .reg barS
theorem wsem_inj : Function.Injective wsem := by decide

/-- The launch's credit, at the cells the device waits at: both barrier units and the four landings. -/
theorem creds (c : Dev nD) : (Pipeline.launchCred O₀ c : sProp 𝕄) ⊢ credits c := by
  unfold Pipeline.launchCred credits
  refine (BI.bigSep_subset (Finset.subset_univ (Finset.univ.map ⟨wsem, wsem_inj⟩))).trans ?_
  rw [bigSep_map, bigSep_univ_eq_bigSepL [(0 : Fin 5), 1, 2, 3, 4] (by decide) (by decide)]
  show iprop(cred (tallyOn (recvCell 0 c) (launchCredit (Pipeline.owing O₀) 0 (recvCell 0 c))) ∗ cred (tallyOn (recvCell 1 c) (launchCredit (Pipeline.owing O₀) 0 (recvCell 1 c)))
    ∗ cred (tallyOn (recvCell 2 c) (launchCredit (Pipeline.owing O₀) 0 (recvCell 2 c))) ∗ cred (tallyOn (recvCell 3 c) (launchCredit (Pipeline.owing O₀) 0 (recvCell 3 c)))
    ∗ cred (tallyOn (barCell c) (launchCredit (Pipeline.owing O₀) 0 (barCell c)))) ⊢ _
  rw [launch_bar, launch_recv, launch_recv, launch_recv, launch_recv]
  unfold four
  iintro ⟨R0, R1, R2, R3, B⟩
  isplitl [B]; · iexact B
  isplitl [R0]; · iexact R0
  isplitl [R1]; · iexact R1
  isplitl [R2] <;> iassumption

/-! ## The launch -/

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem bigSep_unzip (Φ Ψ : Dev nD → sProp 𝕄) : (bigSep Finset.univ fun c => iprop(Φ c ∗ Ψ c)) ⊢ iprop(bigSep Finset.univ Φ ∗ bigSep Finset.univ Ψ) :=
  Entails.of_eq (bigSep_sep' ..)
theorem bigSep_zip (Φ Ψ : Dev nD → sProp 𝕄) : iprop(bigSep Finset.univ Φ ∗ bigSep Finset.univ Ψ) ⊢ (bigSep Finset.univ fun c => iprop(Φ c ∗ Ψ c)) :=
  Entails.of_eq (bigSep_sep' ..).symm

/-- What device `c` brings to the kernel. -/
abbrev T₀ (c : Dev nD) : sProp 𝕄 := iprop(StableHlo.held (c : Thread nD τ) (Pipeline.ucRefs τ sig) (V0 m c) ∗ RR m 0 c)
/-- What it takes away. -/
abbrev Tₙ (c : Dev nD) : sProp 𝕄 := iprop(StableHlo.held (c : Thread nD τ) (Pipeline.ucRefs τ sig) (V2 m (outs m) c) ∗ semVal (barCell c) 0)

/-- What of a device's holdings at the launch is not the talk's own. -/
def bundle (c : Dev nD) : sProp 𝕄 :=
  iprop(StableHlo.held (c : Thread nD τ) (Pipeline.ucRefs τ sig) (V0 m c) ∗ credits c ∗ owes (c : Thread nD τ) (O₀ c) ∅ ∗ ∃ r, prngReg c r)

theorem T₀_intro (κ : GSem nD τ sig → ℕ) (c : Dev nD) : iprop(records m κ ∗ (linear c ∗ bundle m c)) ⊢ T₀ m c := by
  unfold bundle T₀
  rw [show RR m 0 c = R0 m c from rfl]
  unfold R0 Tk
  iintro ⟨#HR, Hl, Hh, HC, HO, Hp⟩
  isplitl [Hh]; · iexact Hh
  isplitl [Hl HC]
  · isplitl [Hl]
    · iapply (ghost_intro m κ c)
      isplitr; · iexact HR
      iexact Hl
    · iexact HC
  isplitl [Hp]; · iexact Hp
  iexists ∅; iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) (Pipeline.ucRefs τ sig) (V0 m c)
      from Pipeline.unscopedBufs_held c (V0 m c), unscopedSems_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopens (c : Dev nD) : (bigSep Finset.univ fun k : Fin 8 => (openTok ER ((c : Thread nD τ), osem k) : sProp 𝕄))
      ⊢ (iprop(four (fun j => openTok ER (sendCell j c)) ∗ four (fun j => openTok ER (recvCell j c))) : sProp 𝕄) := by
    rw [bigSep_univ_eq_bigSepL [(0 : Fin 8), 1, 2, 3, 4, 5, 6, 7] (by decide) (by decide)]
    show iprop(openTok ER (sendCell 0 c) ∗ openTok ER (sendCell 1 c) ∗ openTok ER (sendCell 2 c) ∗ openTok ER (sendCell 3 c)
      ∗ openTok ER (recvCell 0 c) ∗ openTok ER (recvCell 1 c) ∗ openTok ER (recvCell 2 c) ∗ openTok ER (recvCell 3 c)) ⊢ _
    unfold four
    iintro ⟨S0, S1, S2, S3, R⟩
    isplitr [R]
    · isplitl [S0]; · iexact S0
      isplitl [S1]; · iexact S1
      isplitl [S2] <;> iassumption
    iexact R
  have hopen' : bigSep scCells (fun g => (openTok ER g : sProp 𝕄))
      ⊢ bigSep Finset.univ (fun c : Dev nD => (iprop(four (fun j => openTok ER (sendCell j c)) ∗ four (fun j => openTok ER (recvCell j c))) : sProp 𝕄)) := by
    rw [bigSep_map, bigSep_univ_prod]
    exact bigSep_mono fun c _ => hopens c
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := (bigSep_unzip _ _) $$ H'; icases H2 with ⟨HB, H3⟩
  ihave H4 := (bigSep_unzip _ _) $$ H3; icases H4 with ⟨Hv, HG⟩
  ihave Hu := (show bigSep Finset.univ (G (F := F)) ⊢ BI.own (ER (launchOf barCells scCells talkToks)) from
    Entails.of_eq (bigSep_atZero (F := F) (BI.own (ER (launchOf barCells scCells talkToks))))) $$ HG
  imod (Rounds.fund_launch ER (talkRd (sentOf (ins m))) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records
    isplitr; · iexact Hinv
    iexact Hr
  iapply (bigSep_zip _ _)
  isplitr [HB]
  · unfold linear
    iapply (bigSep_zip _ _); isplitl [Hat]; · iapply hat $$ Hat
    iapply (bigSep_zip _ _); isplitl [Hopen]; · iapply hopen' $$ Hopen
    iapply (toks_around (F := F))
    iapply (toks_eq (F := F)) $$ Htok
  · iexact HB

theorem unscoped_eq : ∀ sm : SemLoc sig, sm.isScoped .tc = false → sm = .reg barS := by decide

theorem fund : (ownU u₀ : sProp 𝕄) ⊢ |={Set.univ}=> iprop(BI.own (EP (initOf (Pipeline.cells cfgs cellOf_inj) (Pipeline.launchToks cfgs cellOf_inj)))
    ∗ bigSep Finset.univ (G (F := F))) := by
  unfold u₀ G
  iintro Hu
  ihave H := (ownU_pair _ _) $$ Hu
  icases H with ⟨HP, HX⟩
  imodintro
  isplitl [HP]; · iexact HP
  rw [bigSep_atZero]; iexact HX

/-- What a device's memory holds at the end: its arguments as they were, its result in full. -/
def Ends (c : Dev nD) (μ : (ℓ : Loc nD τ sig) → Buf (Elt F) ℓ) : Prop :=
  μ ((c.tc : Thread nD τ).loc main_arg0) = m ((c.tc : Thread nD τ).loc main_arg0)
  ∧ μ ((c.tc : Thread nD τ).loc main_arg1) = m ((c.tc : Thread nD τ).loc main_arg1)
  ∧ μ ((c.tc : Thread nD τ).loc main_arg2) = m ((c.tc : Thread nD τ).loc main_arg2)
  ∧ μ ((c.tc : Thread nD τ).loc main_arg3) = m ((c.tc : Thread nD τ).loc main_arg3)
  ∧ μ ((c.tc : Thread nD τ).loc main_arg4) = m ((c.tc : Thread nD τ).loc main_arg4)
  ∧ μ ((c.tc : Thread nD τ).loc main_v17) = outOf (ins m) c

/-- Every buffer read off the last valuation, the barrier's counter off its own assertion. -/
theorem finish (c : Dev nD) (s' : Phys nD τ sig (Elt F)) :
    iprop(Tₙ m c ∗ SI s') ⊢ (|={Set.univ}=> iprop(⌜Ends m c s'.mem.mem ∧ s'.mem.sem (barCell c) = 0⌝ ∗ SI s') : sProp 𝕄) := by
  unfold Tₙ StableHlo.held
  iintro ⟨⟨Hh, Hb0⟩, HSI⟩
  icombine HSI Hb0 gives %hb
  ihave Hr := (pointsTo_read_all (Pipeline.ucRefs τ sig) (fun b => ((c : Thread nD τ).1, b)) (V2 m (outs m) c) s') $$ [Hh HSI]
  · isplitl [Hh] <;> iassumption
  icases Hr with ⟨%h, HSI⟩
  imodintro
  isplitr
  · ipureintro
    have rd (b : Ref sig .tc) (hb' : Proc.devRef .tc b ∈ Pipeline.ucRefs τ sig) := h (Proc.devRef .tc b) hb'
    exact ⟨⟨(rd main_arg0 (by decide)).trans (V2_main_arg0 m (outs m) c), (rd main_arg1 (by decide)).trans (V2_main_arg1 m (outs m) c),
      (rd main_arg2 (by decide)).trans (V2_main_arg2 m (outs m) c), (rd main_arg3 (by decide)).trans (V2_main_arg3 m (outs m) c),
      (rd main_arg4 (by decide)).trans (V2_main_arg4 m (outs m) c), (rd main_v17 (by decide)).trans (V2_out m c)⟩, by simpa using hb⟩
  · iexact HSI

set_option backward.isDefEq.respectTransparency.types false in
/-- The run: from any memory with all counters at zero every weakly fair execution terminates; at the end each device's arguments are
    as they were, its result array holds `outOf`, and every counter of the machine reads zero. -/
theorem run_main : θ_run defs (onTc (τ := τ) (main (F := F))) ⟨m, fun _ => 0, ρ⟩
    (fun r => (∀ c : Dev nD, Ends m c r.2.mem) ∧ r.2.sem = fun _ => 0) :=
  Pipeline.θ_run_regions_kit_dev_sems (pcfgs (F := F)) adm (pdats m) () cellOf_inj EP defs₀ 𝒱₀ L lv m ρ main
    (segs m 𝒱₀ L lv (RR m) () (pdats m) (reg m))
    (fun c Q => by
      rewrite [main_chain c, Pipeline.Seg.run_eq_chain,
        show (segs m 𝒱₀ L lv (RR m) () (pdats m) (reg m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀) (hu₀ := fund) (T₀ := T₀ m) (Tₙ := Tₙ m)
    (hch := fun c => ⟨.rfl, reg_pre m c, (reg_post m c).trans (by
      unfold R1
      iintro ⟨Hh, Hb0, HO⟩
      isplitr [HO]
      · isplitl [Hh] <;> iassumption
      · iexact HO)⟩)
    (hinit := init m ρ)
    (QY := fun c s => Ends m c s.mem ∧ s.sem (barCell c) = 0)
    (hfin := fun c s' => finish m c s')
    (hQ := fun s h hs => ⟨fun c => (h c).1, sem_eq_zero hs fun c sm hsm => by
        obtain rfl := unscoped_eq sm hsm
        exact (h c).2⟩)

end Cert.KernelIdeal.Talk

end
-- ==== Proof.Attn.lean ====
/-
The mathematics of the problem over the extended reals, in coordinates: one query row's attention, the whole
result, and the laws by which it is cut over four devices.
-/
module

public import Idealize.ShloMosaic.PureOps.Ideal.Laws

@[expose] public section

noncomputable section

namespace Cert.Attn

open Idealize.ShloMosaic
open scoped BigOperators

/-! ## The two literals -/

/-- The word of minus infinity is the least extended real. -/
theorem negInf : Ideal.ofBits .f32 0xFF800000#32 = (⊥ : EReal) := by
  simp [Ideal.ofBits, Ideal.ieee]

/-- The word of 0.125 is a nonnegative real. -/
theorem eighth : ∃ r : ℝ, 0 ≤ r ∧ Ideal.ofBits .f32 0x3E000000#32 = (r : EReal) := by
  refine ⟨1 / 8, by norm_num, ?_⟩
  simp [Ideal.ofBits, Ideal.ieee, -EReal.coe_mul]
  norm_num

/-- The scale of the scores. -/
abbrev scale : EReal := Ideal.ofBits .f32 0x3E000000#32

/-- A nonnegative real factor moves out of a finite sum of extended reals. -/
theorem sum_mul_real {ι : Type} (s : Finset ι) (f : ι → EReal) (r : ℝ) (hr : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih, EReal.right_distrib_of_nonneg_of_ne_top (by exact_mod_cast hr) (EReal.coe_ne_top r)]

/-- Scaling the queries is scaling the scores. -/
theorem scale_sum {n : ℕ} (q k : Fin n → EReal) : ∑ e, q e * scale * k e = (∑ e, q e * k e) * scale := by
  obtain ⟨r, hr, e⟩ := eighth
  unfold scale
  rw [e, ← sum_mul_real _ _ r hr]
  exact Finset.sum_congr rfl fun i _ => by rw [mul_assoc, mul_comm (r : EReal), ← mul_assoc]

/-! ## One query row -/

/-- The greatest score of a row. -/
def top (s : Fin 128 → EReal) : EReal := Finset.univ.fold max (Ideal.ofBits .f32 0xFF800000#32) s

/-- The weighted mean of the values `v` under the scores `s`. -/
def mean (s v : Fin 128 → EReal) : EReal :=
  Ideal.div (∑ j, Ideal.exp (s j - top s) * v j) (∑ j, Ideal.exp (s j - top s))

/-! ## Sums cut over devices -/

/-- Column `t` of device `d`, among all columns. -/
abbrev col (d : Fin 4) (t : Fin 512) : Fin 2048 := ⟨512 * d.val + t.val, by omega⟩

/-- A sum over all the columns, device by device. -/
theorem sum_devices (f : Fin 2048 → EReal) : ∑ x, f x = ∑ d : Fin 4, ∑ t : Fin 512, f (col d t) := by
  rw [← Fintype.sum_prod_type', ← Equiv.sum_comp (finProdFinEquiv (m := 4) (n := 512))]
  exact Finset.sum_congr rfl fun p _ => congrArg f (Fin.ext (Nat.add_comm ..))

end Cert.Attn

end
-- ==== Proof.Value.Part.lean ====
/-
One device's part of the result, read at an index: what its loads, its heads and its output product are, over the
extended reals, in terms of the five blocks it is given; and the sum that the two exchanges leave on every device.
-/
module

public import proofs.«01_k».proof.Proof.KernelIdeal.Values
public import proofs.«01_k».proof.Proof.Attn
public import Idealize.ShloMosaic.Lib.Pointwise

@[expose] public section

noncomputable section

namespace Cert.KernelIdeal.Talk

open Cert.KernelIdeal Cert.KernelIdeal.Gen Cert.Attn
open Idealize.ShloMosaic
open scoped BigOperators

set_option maxRecDepth 16384

/-! ## The loads -/

theorem ldX_apply (b : Fin 2) (I : Ins Ideal) (i : Fin 128) (k : Fin 512) :
    ldX b I (ix3 0 i k) = (I.x : S2x128x512.Idx → EReal) (ix3 b i k) := by
  show (I.x : S2x128x512.Idx → EReal) _ = _
  refine congrArg (I.x : S2x128x512.Idx → EReal) (funext fun a => Fin.ext ?_)
  match a with
  | ⟨0, _⟩ => rfl
  | ⟨1, _⟩ => exact (Nat.zero_add _).trans (Nat.one_mul _)
  | ⟨2, _⟩ => exact (Nat.zero_add _).trans (Nat.one_mul _)

theorem ldQ_apply (I : Ins Ideal) (k n : Fin 512) : ldQ I (ix2 k n) = (I.wq : S512x512.Idx → EReal) (ix2 k n) := by
  show (I.wq : S512x512.Idx → EReal) _ = _
  refine congrArg (I.wq : S512x512.Idx → EReal) (funext fun a => Fin.ext ?_)
  match a with
  | ⟨0, _⟩ => exact (Nat.zero_add _).trans (Nat.one_mul _)
  | ⟨1, _⟩ => exact (Nat.zero_add _).trans (Nat.one_mul _)

theorem ldO_apply (I : Ins Ideal) (k n : Fin 512) : ldO I (ix2 k n) = (I.wo : S512x512.Idx → EReal) (ix2 k n) := by
  show (I.wo : S512x512.Idx → EReal) _ = _
  refine congrArg (I.wo : S512x512.Idx → EReal) (funext fun a => Fin.ext ?_)
  match a with
  | ⟨0, _⟩ => exact (Nat.zero_add _).trans (Nat.one_mul _)
  | ⟨1, _⟩ => exact (Nat.zero_add _).trans (Nat.one_mul _)

theorem ldK_apply (b : Fin 2) (h : Fin 8) (I : Ins Ideal) (j : Fin 128) (e : Fin 64) :
    ldK b h I (ix4 0 0 j e) = (I.k : S2x8x128x64.Idx → EReal) (ix4 b h j e) := by
  show (I.k : S2x8x128x64.Idx → EReal) _ = _
  refine congrArg (I.k : S2x8x128x64.Idx → EReal) (funext fun a => Fin.ext ?_)
  match a with
  | ⟨0, _⟩ => rfl
  | ⟨1, _⟩ => rfl
  | ⟨2, _⟩ => exact (Nat.zero_add _).trans (Nat.one_mul _)
  | ⟨3, _⟩ => exact (Nat.zero_add _).trans (Nat.one_mul _)

theorem ldV_apply (b : Fin 2) (h : Fin 8) (I : Ins Ideal) (j : Fin 128) (e : Fin 64) :
    ldV b h I (ix4 0 0 j e) = (I.v : S2x8x128x64.Idx → EReal) (ix4 b h j e) := by
  show (I.v : S2x8x128x64.Idx → EReal) _ = _
  refine congrArg (I.v : S2x8x128x64.Idx → EReal) (funext fun a => Fin.ext ?_)
  match a with
  | ⟨0, _⟩ => rfl
  | ⟨1, _⟩ => rfl
  | ⟨2, _⟩ => exact (Nat.zero_add _).trans (Nat.one_mul _)
  | ⟨3, _⟩ => exact (Nat.zero_add _).trans (Nat.one_mul _)

/-! ## One head -/

/-- The queries: a sum over the 512 features. -/
theorem qRow_apply (x : Vec Ideal S1x128x512 .bf16) (wq : Vec Ideal S512x512 .bf16) (i : Fin 128) (n : Fin 512) :
    qRow x wq (ix2 i n) = ∑ k : Fin 512, x (ix3 0 i k) * wq (ix2 k n) := by
  pointwise [qRow]

/-- Column `e` of head `h`, among a device's 512 columns. -/
abbrev hcol (h : Fin 8) (e : Fin 64) : Fin 512 := ⟨64 * h.val + e.val, by omega⟩

/-- The scores, the scale taken out of the sum. -/
theorem scores_apply (h : Fin 8) (q : FVec Ideal S128x512 .f32) (k : Vec Ideal S1x1x128x64 .bf16) (i j : Fin 128) :
    scores h q k (ix2 i j) = (∑ e : Fin 64, q (ix2 i (hcol h e)) * k (ix4 0 0 j e)) * scale := by
  rw [← scale_sum]
  pointwise [scores]

theorem expRows_apply (s : FVec Ideal S128x128 .f32) (i j : Fin 128) :
    expRows s (ix2 i j) = Ideal.exp (s (ix2 i j) - top fun j' => s (ix2 i j')) := by
  pointwise [expRows]
  rfl

theorem weigh_apply (p : FVec Ideal S128x128 .f32) (v : Vec Ideal S1x1x128x64 .bf16) (i : Fin 128) (e : Fin 64) :
    weigh p v (ix2 i e) = Ideal.div (∑ j : Fin 128, p (ix2 i j) * v (ix4 0 0 j e)) (∑ j : Fin 128, p (ix2 i j)) := by
  pointwise [weigh]

/-- A head's row is the mean of its values under its scores. -/
theorem headV_apply (h : Fin 8) (q : FVec Ideal S128x512 .f32) (k v : Vec Ideal S1x1x128x64 .bf16) (i : Fin 128) (e : Fin 64) :
    headV h q k v (ix2 i e)
      = mean (fun j => (∑ e' : Fin 64, q (ix2 i (hcol h e')) * k (ix4 0 0 j e')) * scale) (fun j => v (ix4 0 0 j e)) := by
  unfold headV mean
  rw [weigh_apply]
  simp only [expRows_apply, scores_apply]

/-! ## The output product -/

/-- The head and the column within it of a device's column. -/
abbrev hd (t : Fin 512) : Fin 8 := ⟨t.val / 64, by omega⟩
abbrev cl (t : Fin 512) : Fin 64 := ⟨t.val % 64, by omega⟩

/-- Eight blocks of 64 columns, side by side, read at a column. -/
theorem side_by_side (G : Fin 8 → Fin 64 → EReal) (t : Fin 512) :
    (if h : t.val < 64 then G 0 ⟨t.val, h⟩
      else if h : t.val - 64 < 64 then G 1 ⟨t.val - 64, h⟩
      else if h : t.val - 64 - 64 < 64 then G 2 ⟨t.val - 64 - 64, h⟩
      else if h : t.val - 64 - 64 - 64 < 64 then G 3 ⟨t.val - 64 - 64 - 64, h⟩
      else if h : t.val - 64 - 64 - 64 - 64 < 64 then G 4 ⟨t.val - 64 - 64 - 64 - 64, h⟩
      else if h : t.val - 64 - 64 - 64 - 64 - 64 < 64 then G 5 ⟨t.val - 64 - 64 - 64 - 64 - 64, h⟩
      else if h : t.val - 64 - 64 - 64 - 64 - 64 - 64 < 64 then G 6 ⟨t.val - 64 - 64 - 64 - 64 - 64 - 64, h⟩
      else G 7 ⟨t.val - 64 - 64 - 64 - 64 - 64 - 64 - 64, by omega⟩) = G (hd t) (cl t) := by
  have ht := t.isLt
  split_ifs <;> exact congrArg₂ G (Fin.ext (by simp; omega)) (Fin.ext (by simp; omega))

theorem partOf_apply (q : FVec Ideal S128x512 .f32) (wo : Vec Ideal S512x512 .bf16) (k v : Fin 8 → Vec Ideal S1x1x128x64 .bf16)
    (i : Fin 128) (n : Fin 512) :
    partOf q wo k v (ix2 i n) = ∑ t : Fin 512, headV (hd t) q (k (hd t)) (v (hd t)) (ix2 i (cl t)) * wo (ix2 t n) := by
  have hs := fun t => side_by_side (fun h e => headV h q (k h) (v h) (ix2 i e)) t
  pointwise [partOf]
  exact Finset.sum_congr rfl fun t _ => congrArg (· * wo (ix2 t n)) (hs t)

/-- A device's part of a batch row, in terms of the entries of its five blocks. -/
theorem part_apply (I : Ins Ideal) (x : Fin 2 → Fin 128 → Fin 512 → EReal) (wq wo : Fin 512 → Fin 512 → EReal)
    (k v : Fin 2 → Fin 8 → Fin 128 → Fin 64 → EReal)
    (hx : ∀ b i f, I.x (ix3 b i f) = x b i f) (hq : ∀ f n, I.wq (ix2 f n) = wq f n) (ho : ∀ t n, I.wo (ix2 t n) = wo t n)
    (hk : ∀ b h j e, I.k (ix4 b h j e) = k b h j e) (hv : ∀ b h j e, I.v (ix4 b h j e) = v b h j e)
    (b : Fin 2) (i : Fin 128) (n : Fin 512) :
    part b I (ix2 i n) = ∑ t : Fin 512,
      mean (fun j => (∑ e : Fin 64, (∑ f : Fin 512, x b i f * wq f (hcol (hd t) e)) * k b (hd t) j e) * scale)
        (fun j => v b (hd t) j (cl t)) * wo t n := by
  unfold part
  rw [partOf_apply]
  simp only [headV_apply, qRow_apply, ldX_apply, ldQ_apply, ldO_apply, ldK_apply, ldV_apply, hx, hq, ho, hk, hv]

/-! ## The exchanges -/

theorem addSlot_apply (a a' : FVec Ideal S128x512 .f32) (i : Fin 128) (n : Fin 512) :
    addSlot (asRow a) (asSlot a') (ix2 i n) = (a (ix2 i n) + a' (ix2 i n) : EReal) := by
  pointwise [addSlot, asRow, asSlot]

/-- Around the four devices: a device, its two partners, and its second partner's first. -/
theorem sum_around (A : Fin 4 → EReal) : ∀ c : Fin 4, (A c + A (p1 c)) + (A (p2 c) + A (p1 (p2 c))) = ∑ d, A d := by
  intro c
  rw [Fin.sum_univ_four]
  match c with
  | 0 => show (A 0 + A 1) + (A 2 + A 3) = _; abel
  | 1 => show (A 1 + A 0) + (A 3 + A 2) = _; abel
  | 2 => show (A 2 + A 3) + (A 0 + A 1) = _; abel
  | 3 => show (A 3 + A 2) + (A 1 + A 0) = _; abel

theorem sumA_apply (In : Dev nD → Ins Ideal) (c : Dev nD) (b : Fin 2) (i : Fin 128) (n : Fin 512) :
    sumA In b c (ix2 i n) = (part b (In c) (ix2 i n) + part b (In (p1 c)) (ix2 i n) : EReal) :=
  addSlot_apply _ _ i n

theorem sumB_apply (In : Dev nD → Ins Ideal) (c : Dev nD) (b : Fin 2) (i : Fin 128) (n : Fin 512) :
    sumB In b c (ix2 i n) = ∑ d : Fin 4, part b (In d) (ix2 i n) := by
  refine (addSlot_apply (sumA In b c) (sumA In b (p2 c)) i n).trans ?_
  rw [sumA_apply, sumA_apply]
  exact sum_around (fun d => part b (In d) (ix2 i n)) c

theorem asRow_apply (a : FVec Ideal S128x512 .f32) (i : Fin 128) (n : Fin 512) : asRow a (ix3 0 i n) = a (ix2 i n) := by
  pointwise [asRow]

/-- A result of two batch rows, read at an index. -/
theorem outRows_apply (w : Fin 2 → Vec Ideal S1x128x512 .f32) (b : Fin 2) (i : Fin 128) (n : Fin 512) :
    (outRows (w 0) (w 1) : S2x128x512.Idx → EReal) (ix3 b i n) = w b (ix3 0 i n) := by
  have e : (ValueIdx.ix3 (0 : Fin 1) i n : S1x128x512.Idx) = ix3 0 i n := by
    funext a
    match a with
    | ⟨0, _⟩ => rfl
    | ⟨1, _⟩ => rfl
    | ⟨2, _⟩ => rfl
  match b with
  | 0 => exact congrArg (w 0) e
  | 1 => exact congrArg (w 1) e

/-- On every device the result is the sum of the four devices' parts. -/
theorem outOf_apply (In : Dev nD → Ins Ideal) (c : Dev nD) (b : Fin 2) (i : Fin 128) (n : Fin 512) :
    (outOf In c : S2x128x512.Idx → EReal) (ix3 b i n) = ∑ d : Fin 4, part b (In d) (ix2 i n) := by
  unfold outOf
  rw [outRows_apply (fun b => asRow (sumB In b c)), asRow_apply, sumB_apply]

end Cert.KernelIdeal.Talk

end
-- ==== Proof.Value.Inputs.lean ====
/-
What the kernel is given on a device: the first, second and fifth arguments as they are, and of the keys and the values
the device's own eight heads, cut out of the whole arrays at head `8 c` and turned so that the heads come first.
-/
module

public import proofs.«01_k».proof.Proof.KernelIdeal.Region
public import Idealize.ShloMosaic.Lib.DynamicIndex
public import Idealize.ShloMosaic.Lib.Pointwise

@[expose] public section

noncomputable section

namespace Cert.KernelIdeal.Talk

open Cert.KernelIdeal Cert.KernelIdeal.Gen
open Idealize.ShloMosaic
open Idealize.ShloMosaic.TcCoe Idealize.SL.Sem

set_option maxRecDepth 16384

variable (m : (ℓ : Loc nD τ sig) → Buf (Elt Ideal) ℓ) (c : Dev nD)

/-- The first head of device `c` is head `8 c`. -/
abbrev cutAt (c : Dev nD) : Fin 4 → Nat := ![0, 0, 8 * c.val, 0]

theorem cutAt_fits (c : Dev nD) : S2x128x32x64.Slices (cutAt c) S2x128x8x64 := by
  revert c; decide

/-- Eight times the device's number, computed as the program does. -/
abbrev eight (c : Dev nD) : IVec S_ 32 :=
  muli (Host.remui (Host.divui (constantI S_ 32 (Dev.word c)) (constantI S_ 32 1#32)) (constantI S_ 32 4#32)) (constantI S_ 32 8#32)

/-- Where the program's cut starts among the heads. -/
theorem cutAt_start (c : Dev nD) : BitVec.toInt ((select (cmpi .slt (eight c) (constantI S_ 32 0#32))
      (addi (eight c) (constantI S_ 32 32#32)) (eight c) : IVec S_ 32) (Shape.Idx.first h_S_)) = ((8 * c.val : Nat) : Int) := by
  match c with
  | 0 => decide
  | 1 => decide
  | 2 => decide
  | 3 => decide

/-- The keys, as the kernel is given them. -/
theorem heads_k : V1 m c main_v10
    = transpose S2x8x128x64 [0, 2, 1, 3] (extractStridedSlice S2x128x8x64 (cutAt c) (m ((c : Thread nD τ).loc main_arg2)) (cutAt_fits c))
        transposes_S2x128x8x64_S2x8x128x64_0_2_1_3 := by
  show StableHlo.after (hostOps0 c) (V0 m c) (Proc.devRef .tc main_v10) = _
  after_results_simp
  refine congrArg (fun z => transpose S2x8x128x64 [0, 2, 1, 3] z transposes_S2x128x8x64_S2x8x128x64_0_2_1_3) ?_
  refine Host.dynamicSlice_eq_extractStridedSlice (s := S2x128x32x64) S2x128x8x64 _ _ (cutAt c) _ (cutAt_fits c) fun a => ?_
  match a with
  | ⟨0, _⟩ => rfl
  | ⟨1, _⟩ => rfl
  | ⟨2, _⟩ => exact cutAt_start c
  | ⟨3, _⟩ => rfl

/-- The values, as the kernel is given them. -/
theorem heads_v : V1 m c main_v16
    = transpose S2x8x128x64 [0, 2, 1, 3] (extractStridedSlice S2x128x8x64 (cutAt c) (m ((c : Thread nD τ).loc main_arg3)) (cutAt_fits c))
        transposes_S2x128x8x64_S2x8x128x64_0_2_1_3 := by
  show StableHlo.after (hostOps0 c) (V0 m c) (Proc.devRef .tc main_v16) = _
  after_results_simp
  refine congrArg (fun z => transpose S2x8x128x64 [0, 2, 1, 3] z transposes_S2x128x8x64_S2x8x128x64_0_2_1_3) ?_
  refine Host.dynamicSlice_eq_extractStridedSlice (s := S2x128x32x64) S2x128x8x64 _ _ (cutAt c) _ (cutAt_fits c) fun a => ?_
  match a with
  | ⟨0, _⟩ => rfl
  | ⟨1, _⟩ => rfl
  | ⟨2, _⟩ => exact cutAt_start c
  | ⟨3, _⟩ => rfl

/-- Head `h` of device `c`, among all heads. -/
abbrev devHead (c : Dev nD) (h : Fin 8) : Fin 32 := ⟨8 * c.val + h.val, by have : c.val < 4 := c.isLt; omega⟩

/-- Device `c`'s heads, cut out of an array and turned, read at an index. -/
theorem turned_apply (x : S2x128x32x64.Idx → EReal) (b : Fin 2) (h : Fin 8) (j : Fin 128) (e : Fin 64) :
    transpose S2x8x128x64 [0, 2, 1, 3] (extractStridedSlice S2x128x8x64 (cutAt c) x (cutAt_fits c))
        transposes_S2x128x8x64_S2x8x128x64_0_2_1_3 (ix4 b h j e) = x (ix4 b j (devHead c h) e) := by
  refine congrArg x (funext fun a => Fin.ext ?_)
  match a with
  | ⟨0, _⟩ => exact Nat.zero_add _
  | ⟨1, _⟩ => exact Nat.zero_add _
  | ⟨2, _⟩ => rfl
  | ⟨3, _⟩ => exact Nat.zero_add _

theorem in_x : (ins m c).x = m ((c : Thread nD τ).loc main_arg0) := V1_of m c main_arg0 (by decide)
theorem in_wq : (ins m c).wq = m ((c : Thread nD τ).loc main_arg1) := V1_of m c main_arg1 (by decide)
theorem in_wo : (ins m c).wo = m ((c : Thread nD τ).loc main_arg4) := V1_of m c main_arg4 (by decide)

theorem in_k (b : Fin 2) (h : Fin 8) (j : Fin 128) (e : Fin 64) :
    (ins m c).k (ix4 b h j e) = m ((c : Thread nD τ).loc main_arg2) (ix4 b j (devHead c h) e) :=
  (congrFun (heads_k m c) _).trans (turned_apply c _ b h j e)
theorem in_v (b : Fin 2) (h : Fin 8) (j : Fin 128) (e : Fin 64) :
    (ins m c).v (ix4 b h j e) = m ((c : Thread nD τ).loc main_arg3) (ix4 b j (devHead c h) e) :=
  (congrFun (heads_v m c) _).trans (turned_apply c _ b h j e)

end Cert.KernelIdeal.Talk

end
-- ==== Proof.Value.Reference.lean ====
/-
The reference's result, read at an index: for each of the 2048 columns the mean of the values under the scores of the
column's head, times the output weights, summed.
-/
module

public import proofs.«01_k».proof.Proof.Gen.ReferenceIdeal.Run
public import proofs.«01_k».proof.Proof.Attn
public import Idealize.ShloMosaic.Lib.Pointwise
public import Idealize.ShloMosaic.Lib.Tactic.CleanTypes

@[expose] public section

noncomputable section

namespace Cert.ReferenceIdeal.Talk

open Cert.ReferenceIdeal Cert.ReferenceIdeal.Gen Cert.Attn
open Idealize.ShloMosaic
open Idealize.ShloMosaic.TcCoe Idealize.SL.Sem
open scoped BigOperators

set_option maxRecDepth 16384

variable (m : (ℓ : Loc nD τ sig) → Buf (Elt Ideal) ℓ) (c : Dev nD)

/-- The head of a column, its place within the head, and the column of a head's place. -/
abbrev hd (x : Fin 2048) : Fin 32 := ⟨x.val / 64, by omega⟩
abbrev cl (x : Fin 2048) : Fin 64 := ⟨x.val % 64, by omega⟩
abbrev hcol (h : Fin 32) (e : Fin 64) : Fin 2048 := ⟨h.val * 64 + e.val, by omega⟩

/-- The result in coordinates. -/
theorem result_apply (x : Fin 2 → Fin 128 → Fin 512 → EReal) (wq : Fin 512 → Fin 2048 → EReal)
    (k v : Fin 2 → Fin 128 → Fin 32 → Fin 64 → EReal) (wo : Fin 2048 → Fin 512 → EReal)
    (hx : ∀ b i f, m ((c : Thread nD τ).loc main_arg0) (ix3 b i f) = x b i f)
    (hq : ∀ f n, m ((c : Thread nD τ).loc main_arg1) (ix2 f n) = wq f n)
    (hk : ∀ b j h e, m ((c : Thread nD τ).loc main_arg2) (ix4 b j h e) = k b j h e)
    (hv : ∀ b j h e, m ((c : Thread nD τ).loc main_arg3) (ix4 b j h e) = v b j h e)
    (ho : ∀ t n, m ((c : Thread nD τ).loc main_arg4) (ix2 t n) = wo t n)
    (b : Fin 2) (i : Fin 128) (n : Fin 512) :
    (Value.res_main_v33 m c : S2x128x512.Idx → EReal) (ix3 b i n) = ∑ t : Fin 2048,
      mean (fun j => (∑ e : Fin 64, (∑ f : Fin 512, x b i f * wq f (hcol (hd t) e)) * k b j (hd t) e) * scale)
        (fun j => v b j (hd t) (cl t)) * wo t n := by
  unfold Value.res_main_v33
  clean_types
  pointwise
  refine Finset.sum_congr rfl fun t _ => ?_
  simp only [hx, hq, hk, hv, ho]
  refine congrArg (· * wo t n) ?_
  unfold mean top
  simp only [negInf, bot_sup_eq, max_bot_left, zero_mul, zero_add]
  exact congrArg₂ Ideal.div (Finset.sum_congr rfl fun j _ => mul_comm _ _) rfl

end Cert.ReferenceIdeal.Talk

end
-- ==== Proof.Value.Equal.lean ====
/-
The equation: what every device of the kernel ends with is the reference's result, where each device is given its block of
the two weight arrays and all of the rest.
-/
module

public import proofs.«01_k».proof.Proof.Value.Part
public import proofs.«01_k».proof.Proof.Value.Inputs
public import proofs.«01_k».proof.Proof.Value.Reference
public import Idealize.ShloMosaic.Lib.Layout

@[expose] public section

noncomputable section

namespace Cert.Attn

open Idealize.ShloMosaic
open Idealize.ShloMosaic.TcCoe Idealize.SL.Sem
open scoped BigOperators

set_option maxRecDepth 16384

/-- An entry of a device's block of columns. -/
theorem block_cols (c : Fin 4) (w : (⟨2, ![512, 2048]⟩ : Shape).Idx → EReal) (f n : Fin 512) :
    (Layout.block ⟨2, ![512, 512]⟩ ⟨2, ![512, 2048]⟩ 1 4 c w) (ix2 f n) = w (ix2 f (col c n)) := by
  rw [Layout.block_apply]
  refine congrArg w (funext fun a => Fin.ext ?_)
  match a with
  | ⟨0, _⟩ => rfl
  | ⟨1, _⟩ => exact congrArg (· + n.val) (Nat.mul_comm c.val 512)

/-- An entry of a device's block of rows. -/
theorem block_rows (c : Fin 4) (w : (⟨2, ![2048, 512]⟩ : Shape).Idx → EReal) (t n : Fin 512) :
    (Layout.block ⟨2, ![512, 512]⟩ ⟨2, ![2048, 512]⟩ 0 4 c w) (ix2 t n) = w (ix2 (col c t) n) := by
  rw [Layout.block_apply]
  refine congrArg w (funext fun a => Fin.ext ?_)
  match a with
  | ⟨0, _⟩ => exact congrArg (· + t.val) (Nat.mul_comm c.val 512)
  | ⟨1, _⟩ => rfl

/-- A device's column: its head, its place within the head, and the columns of that head. -/
theorem head_col (d : Fin 4) (t : Fin 512) : KernelIdeal.Talk.devHead d (KernelIdeal.Talk.hd t) = ReferenceIdeal.Talk.hd (col d t) :=
  Fin.ext (by show 8 * d.val + t.val / 64 = (512 * d.val + t.val) / 64; omega)
theorem place_col (d : Fin 4) (t : Fin 512) : KernelIdeal.Talk.cl t = ReferenceIdeal.Talk.cl (col d t) :=
  Fin.ext (by show t.val % 64 = (512 * d.val + t.val) % 64; omega)
theorem cols_head (d : Fin 4) (t : Fin 512) (e : Fin 64) :
    col d (KernelIdeal.Talk.hcol (KernelIdeal.Talk.hd t) e) = ReferenceIdeal.Talk.hcol (ReferenceIdeal.Talk.hd (col d t)) e :=
  Fin.ext (by show 512 * d.val + (64 * (t.val / 64) + e.val) = (512 * d.val + t.val) / 64 * 64 + e.val; omega)

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)

/-! The reference's five arguments. -/
abbrev arg0 : (⟨3, ![2, 128, 512]⟩ : Shape).Idx → EReal := m' (((0 : Dev ReferenceIdeal.nD).tc : Thread ReferenceIdeal.nD ReferenceIdeal.τ).loc ReferenceIdeal.main_arg0)
abbrev arg1 : (⟨2, ![512, 2048]⟩ : Shape).Idx → EReal := m' (((0 : Dev ReferenceIdeal.nD).tc : Thread ReferenceIdeal.nD ReferenceIdeal.τ).loc ReferenceIdeal.main_arg1)
abbrev arg2 : (⟨4, ![2, 128, 32, 64]⟩ : Shape).Idx → EReal := m' (((0 : Dev ReferenceIdeal.nD).tc : Thread ReferenceIdeal.nD ReferenceIdeal.τ).loc ReferenceIdeal.main_arg2)
abbrev arg3 : (⟨4, ![2, 128, 32, 64]⟩ : Shape).Idx → EReal := m' (((0 : Dev ReferenceIdeal.nD).tc : Thread ReferenceIdeal.nD ReferenceIdeal.τ).loc ReferenceIdeal.main_arg3)
abbrev arg4 : (⟨2, ![2048, 512]⟩ : Shape).Idx → EReal := m' (((0 : Dev ReferenceIdeal.nD).tc : Thread ReferenceIdeal.nD ReferenceIdeal.τ).loc ReferenceIdeal.main_arg4)

/-- Device `c` is given its block of the two weight arrays of the reference, and all of the other three. -/
def Given (c : Dev KernelIdeal.nD) : Prop :=
  m ((c.tc : Thread KernelIdeal.nD KernelIdeal.τ).loc KernelIdeal.main_arg0) = arg0 m'
  ∧ m ((c.tc : Thread KernelIdeal.nD KernelIdeal.τ).loc KernelIdeal.main_arg1)
      = Layout.block ⟨2, ![512, 512]⟩ ⟨2, ![512, 2048]⟩ 1 4 c (arg1 m')
  ∧ m ((c.tc : Thread KernelIdeal.nD KernelIdeal.τ).loc KernelIdeal.main_arg2) = arg2 m'
  ∧ m ((c.tc : Thread KernelIdeal.nD KernelIdeal.τ).loc KernelIdeal.main_arg3) = arg3 m'
  ∧ m ((c.tc : Thread KernelIdeal.nD KernelIdeal.τ).loc KernelIdeal.main_arg4)
      = Layout.block ⟨2, ![512, 512]⟩ ⟨2, ![2048, 512]⟩ 0 4 c (arg4 m')

/-- Every device of the kernel ends with the reference's result, entry by entry. -/
theorem same_at (h : ∀ c, Given m m' c) (c : Dev KernelIdeal.nD) (b : Fin 2) (i : Fin 128) (n : Fin 512) :
    (KernelIdeal.Talk.outOf (KernelIdeal.Talk.ins m) c : (⟨3, ![2, 128, 512]⟩ : Shape).Idx → EReal) (ix3 b i n)
      = (ReferenceIdeal.Value.res_main_v33 m' 0 : (⟨3, ![2, 128, 512]⟩ : Shape).Idx → EReal) (ix3 b i n) := by
  refine Eq.trans (α := EReal) (KernelIdeal.Talk.outOf_apply _ c b i n) (Eq.trans (α := EReal) ?_ ((ReferenceIdeal.Talk.result_apply m' 0 (fun b i f => arg0 m' (ix3 b i f)) (fun f n => arg1 m' (ix2 f n))
    (fun b j h e => arg2 m' (ix4 b j h e)) (fun b j h e => arg3 m' (ix4 b j h e)) (fun t n => arg4 m' (ix2 t n))
    (fun _ _ _ => rfl) (fun _ _ => rfl) (fun _ _ _ _ => rfl) (fun _ _ _ _ => rfl) (fun _ _ => rfl) b i n).trans (sum_devices _)).symm)
  refine Finset.sum_congr rfl fun d _ => ?_
  obtain ⟨h0, h1, h2, h3, h4⟩ := h d
  rw [KernelIdeal.Talk.part_apply (KernelIdeal.Talk.ins m d) (fun b i f => arg0 m' (ix3 b i f)) (fun f n => arg1 m' (ix2 f (col d n)))
    (fun t n => arg4 m' (ix2 (col d t) n)) (fun b h j e => arg2 m' (ix4 b j (KernelIdeal.Talk.devHead d h) e))
    (fun b h j e => arg3 m' (ix4 b j (KernelIdeal.Talk.devHead d h) e))
    (fun b i f => congrFun ((KernelIdeal.Talk.in_x m d).trans h0) _)
    (fun f n => (congrFun ((KernelIdeal.Talk.in_wq m d).trans h1) _).trans (block_cols d _ f n))
    (fun t n => (congrFun ((KernelIdeal.Talk.in_wo m d).trans h4) _).trans (block_rows d _ t n))
    (fun b h j e => (KernelIdeal.Talk.in_k m d b h j e).trans (congrFun h2 _))
    (fun b h j e => (KernelIdeal.Talk.in_v m d b h j e).trans (congrFun h3 _))]
  simp only [head_col, ← place_col d, cols_head]

/-- Every device of the kernel ends with the reference's result. -/
theorem same (h : ∀ c, Given m m' c) (c : Dev KernelIdeal.nD) :
    (KernelIdeal.Talk.outOf (KernelIdeal.Talk.ins m) c : (⟨3, ![2, 128, 512]⟩ : Shape).Idx → EReal) = ReferenceIdeal.Value.res_main_v33 m' 0 := by
  funext y
  have e := eq_ix3 (n0 := 2) (n1 := 128) (n2 := 512) y
  exact (congrArg (KernelIdeal.Talk.outOf (KernelIdeal.Talk.ins m) c) e).trans
    ((same_at m m' h c (y 0) (y 1) (y 2)).trans (congrArg (ReferenceIdeal.Value.res_main_v33 m' 0) e).symm)

end Cert.Attn

end
-- ==== Proof.lean ====
/-
The proof of the certificate's claims, assembled from the modules under Proof/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Equal
public import Idealize.ShloMosaic.Adequacy
public import Idealize.ShloMosaic.Init

@[expose] public section

noncomputable section

namespace Cert.Proof

open Idealize.ShloMosaic Idealize.SL.Sem Cert.Kernel

/-- The kernel, as printed: it runs, its arguments stay, every counter returns to zero. -/
theorem frame_kernel : Cert.quiescent_Kernel (hKernel := Cert.Kernel.Gen.facts) := fun m ρ _ =>
  (θ_run _ _ _).mono (fun _ h => ⟨fun c => ⟨(h.1 c).1, (h.1 c).2.1, (h.1 c).2.2.1, (h.1 c).2.2.2.1, (h.1 c).2.2.2.2.1⟩, h.2⟩) (Cert.Kernel.Talk.run_main m ρ)

/-- The same of the kernel over the extended reals. -/
theorem frame_ideal : Cert.quiescent_KernelIdeal (hKernelIdeal := Cert.KernelIdeal.Gen.facts) := fun m ρ _ =>
  (θ_run _ _ _).mono (fun _ h => ⟨fun c => ⟨(h.1 c).1, (h.1 c).2.1, (h.1 c).2.2.1, (h.1 c).2.2.2.1, (h.1 c).2.2.2.2.1⟩, h.2⟩) (Cert.KernelIdeal.Talk.run_main m ρ)

/-- The same of the reference, which has no semaphores at all. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run m ρ)

/-- Over the extended reals every device of the kernel ends with the reference's result, both programs' arguments
staying. -/
theorem value_ideal : Cert.algebraic_KernelIdeal_ReferenceIdeal (hKernelIdeal := Cert.KernelIdeal.Gen.facts)
    (hReferenceIdeal := Cert.ReferenceIdeal.Gen.facts) := fun m g m' g' _ hin =>
  ⟨Cert.ReferenceIdeal.Value.res_main_v33 m' 0,
    (θ_run _ _ _).mono (fun _ h c => ⟨(h.1 c).2.2.2.2.2.trans (Cert.Attn.same m m' hin c), (h.1 c).1, (h.1 c).2.1, (h.1 c).2.2.1,
      (h.1 c).2.2.2.1, (h.1 c).2.2.2.2.1⟩) (Cert.KernelIdeal.Talk.run_main m g),
    (θ_run _ _ _).mono (fun _ h => h 0) (Cert.ReferenceIdeal.Value.run m' g')⟩

theorem claim : Cert.Claim :=
  ⟨Cert.Kernel.Gen.facts, Cert.KernelIdeal.Gen.facts, Cert.ReferenceIdeal.Gen.facts,
    frame_kernel, frame_ideal, frame_reference, trivial, value_ideal⟩

end Cert.Proof

end
